-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_near_pre_ordinary [hKernelIdeal : Cert.KernelIdeal.Facts] [hPre_ordinary : Cert.Pre_ordinary.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v14)) (r.2.mem ((c.tc : Thread Cert.KernelIdeal.nD Cert.KernelIdeal.τ).loc Cert.KernelIdeal.main_v9)) (r.2.mem ((c.tc : Thread Cert.KernelIdeal.nD Cert.KernelIdeal.τ).loc Cert.KernelIdeal.main_v13))) = (fun _ => 1#1))

def Claim : Prop :=
  ∃ (hKernel : Cert.Kernel.Facts) (hKernelIdeal : Cert.KernelIdeal.Facts) (hReferenceIdeal : Cert.ReferenceIdeal.Facts) (hPre_ordinary : Cert.Pre_ordinary.Facts) (hPost_near : Cert.Post_near.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
    ∧ holds_KernelIdeal_near_pre_ordinary (hKernelIdeal := hKernelIdeal) (hPre_ordinary := hPre_ordinary) (hPost_near := hPost_near)
-- ==== Post_near.lean ====
abbrev S32x24564x4 : Shape := ⟨3, ![32, 24564, 4]⟩
abbrev S32x24564x21 : Shape := ⟨3, ![32, 24564, 21]⟩
abbrev S32x32x4 : Shape := ⟨3, ![32, 32, 4]⟩
abbrev S32x32 : Shape := ⟨2, ![32, 32]⟩
abbrev S24564x4 : Shape := ⟨2, ![24564, 4]⟩
abbrev S_ : Shape := ⟨0, ![]⟩
abbrev S24564x2 : Shape := ⟨2, ![24564, 2]⟩
abbrev S32x32x1x4 : Shape := ⟨4, ![32, 32, 1, 4]⟩
abbrev S1x1x24564x4 : Shape := ⟨4, ![1, 1, 24564, 4]⟩
abbrev S32x32x1x1 : Shape := ⟨4, ![32, 32, 1, 1]⟩
abbrev S32x32x1 : Shape := ⟨3, ![32, 32, 1]⟩
abbrev S1x1x24564x1 : Shape := ⟨4, ![1, 1, 24564, 1]⟩
abbrev S1x1x24564 : Shape := ⟨3, ![1, 1, 24564]⟩
abbrev S32x32x24564 : Shape := ⟨3, ![32, 32, 24564]⟩
abbrev S24564x1 : Shape := ⟨2, ![24564, 1]⟩
abbrev S24564 : Shape := ⟨1, ![24564]⟩
abbrev S32x24564 : Shape := ⟨2, ![32, 24564]⟩
abbrev S32x24564x32 : Shape := ⟨3, ![32, 24564, 32]⟩
abbrev S32x24564x1 : Shape := ⟨3, ![32, 24564, 1]⟩
abbrev S32x1x24564 : Shape := ⟨3, ![32, 1, 24564]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩
abbrev S32x24564x2 : Shape := ⟨3, ![32, 24564, 2]⟩
abbrev S1x24564x2 : Shape := ⟨3, ![1, 24564, 2]⟩
abbrev S32x24564x1x1 : Shape := ⟨4, ![32, 24564, 1, 1]⟩
abbrev S1x1x1x1 : Shape := ⟨4, ![1, 1, 1, 1]⟩
abbrev S32x1 : Shape := ⟨2, ![32, 1]⟩

class Facts : Prop where
  slices_S24564x4_S24564x2_0_0 : S24564x4.Slices ![0, 0] S24564x2
  slices_S24564x4_S24564x2_0_2 : S24564x4.Slices ![0, 2] S24564x2
  bcast_S_S24564x2 : S_.BroadcastsInDim S24564x2 (![] : Fin 0 → Fin S24564x2.rank)
  concatenates_S24564x2_S24564x2_S24564x4_d1 : Shape.Concatenates [S24564x2, S24564x2] S24564x4 1
  bcast_S32x32x4_S32x32x1x4_0_1_3 : S32x32x4.BroadcastsInDim S32x32x1x4 (![0, 1, 3] : Fin 3 → Fin S32x32x1x4.rank)
  bcast_S24564x4_S1x1x24564x4_2_3 : S24564x4.BroadcastsInDim S1x1x24564x4 (![2, 3] : Fin 2 → Fin S1x1x24564x4.rank)
  slices_S32x32x1x4_S32x32x1x1_0_0_0_2 : S32x32x1x4.Slices ![0, 0, 0, 2] S32x32x1x1
  shapeCasts_S32x32x1x1_S32x32x1 : S32x32x1x1.ShapeCasts S32x32x1
  slices_S1x1x24564x4_S1x1x24564x1_0_0_0_2 : S1x1x24564x4.Slices ![0, 0, 0, 2] S1x1x24564x1
  shapeCasts_S1x1x24564x1_S1x1x24564 : S1x1x24564x1.ShapeCasts S1x1x24564
  bcast_S32x32x1_S32x32x24564_0_1_2 : S32x32x1.BroadcastsInDim S32x32x24564 (![0, 1, 2] : Fin 3 → Fin S32x32x24564.rank)
  bcast_S1x1x24564_S32x32x24564_0_1_2 : S1x1x24564.BroadcastsInDim S32x32x24564 (![0, 1, 2] : Fin 3 → Fin S32x32x24564.rank)
  slices_S32x32x1x4_S32x32x1x1_0_0_0_0 : S32x32x1x4.Slices ![0, 0, 0, 0] S32x32x1x1
  slices_S1x1x24564x4_S1x1x24564x1_0_0_0_0 : S1x1x24564x4.Slices ![0, 0, 0, 0] S1x1x24564x1
  bcast_S_S32x32x24564 : S_.BroadcastsInDim S32x32x24564 (![] : Fin 0 → Fin S32x32x24564.rank)
  slices_S32x32x1x4_S32x32x1x1_0_0_0_3 : S32x32x1x4.Slices ![0, 0, 0, 3] S32x32x1x1
  slices_S1x1x24564x4_S1x1x24564x1_0_0_0_3 : S1x1x24564x4.Slices ![0, 0, 0, 3] S1x1x24564x1
  slices_S32x32x1x4_S32x32x1x1_0_0_0_1 : S32x32x1x4.Slices ![0, 0, 0, 1] S32x32x1x1
  slices_S1x1x24564x4_S1x1x24564x1_0_0_0_1 : S1x1x24564x4.Slices ![0, 0, 0, 1] S1x1x24564x1
  slices_S32x32x4_S32x32x1_0_0_2 : S32x32x4.Slices ![0, 0, 2] S32x32x1
  shapeCasts_S32x32x1_S32x32 : S32x32x1.ShapeCasts S32x32
  slices_S32x32x4_S32x32x1_0_0_0 : S32x32x4.Slices ![0, 0, 0] S32x32x1
  slices_S32x32x4_S32x32x1_0_0_3 : S32x32x4.Slices ![0, 0, 3] S32x32x1
  slices_S32x32x4_S32x32x1_0_0_1 : S32x32x4.Slices ![0, 0, 1] S32x32x1
  slices_S24564x4_S24564x1_0_2 : S24564x4.Slices ![0, 2] S24564x1
  shapeCasts_S24564x1_S24564 : S24564x1.ShapeCasts S24564
  slices_S24564x4_S24564x1_0_0 : S24564x4.Slices ![0, 0] S24564x1
  slices_S24564x4_S24564x1_0_3 : S24564x4.Slices ![0, 3] S24564x1
  slices_S24564x4_S24564x1_0_1 : S24564x4.Slices ![0, 1] S24564x1
  bcast_S32x32_S32x32x1_0_1 : S32x32.BroadcastsInDim S32x32x1 (![0, 1] : Fin 2 → Fin S32x32x1.rank)
  bcast_S24564_S1x1x24564_2 : S24564.BroadcastsInDim S1x1x24564 (![2] : Fin 1 → Fin S1x1x24564.rank)
  reducesTo_S32x32x24564_S32x32_d2 : S32x32x24564.ReducesTo [2] S32x32
  h_S_ : 0 < S_.numel
  sliceFits_S32x32x24564_S32x32x1 : S32x32x24564.Slices (fun _ => 0) S32x32x1
  reducesTo_S32x32x24564_S32x24564_d1 : S32x32x24564.ReducesTo [1] S32x24564
  transposes_S32x32x24564_S32x24564x32_0_2_1 : S32x32x24564.Transposes [0, 2, 1] S32x24564x32
  sliceFits_S32x24564x32_S32x24564x1 : S32x24564x32.Slices (fun _ => 0) S32x24564x1
  shapeCasts_S32x24564x1_S32x24564 : S32x24564x1.ShapeCasts S32x24564
  bcast_S_S32x24564 : S_.BroadcastsInDim S32x24564 (![] : Fin 0 → Fin S32x24564.rank)
  bcast_S_S32x32x1 : S_.BroadcastsInDim S32x32x1 (![] : Fin 0 → Fin S32x32x1.rank)
  bcast_S32x24564_S32x1x24564_0_2 : S32x24564.BroadcastsInDim S32x1x24564 (![0, 2] : Fin 2 → Fin S32x1x24564.rank)
  bcast_S32x1x24564_S32x32x24564_0_1_2 : S32x1x24564.BroadcastsInDim S32x32x24564 (![0, 1, 2] : Fin 3 → Fin S32x32x24564.rank)
  bcast_S32_S1x32x1_1 : S32.BroadcastsInDim S1x32x1 (![1] : Fin 1 → Fin S1x32x1.rank)
  bcast_S1x32x1_S32x32x24564_0_1_2 : S1x32x1.BroadcastsInDim S32x32x24564 (![0, 1, 2] : Fin 3 → Fin S32x32x24564.rank)
  bcast_S32x24564_S32x24564x1_0_1 : S32x24564.BroadcastsInDim S32x24564x1 (![0, 1] : Fin 2 → Fin S32x24564x1.rank)
  bcast_S_S32x24564x1 : S_.BroadcastsInDim S32x24564x1 (![] : Fin 0 → Fin S32x24564x1.rank)
  bcast_S1_S1x1x1_2 : S1.BroadcastsInDim S1x1x1 (![2] : Fin 1 → Fin S1x1x1.rank)
  bcast_S1x1x1_S32x24564x1_0_1_2 : S1x1x1.BroadcastsInDim S32x24564x1 (![0, 1, 2] : Fin 3 → Fin S32x24564x1.rank)
  reducesTo_S32x24564x1_S32x24564_d2 : S32x24564x1.ReducesTo [2] S32x24564
  bcast_S32x24564_S32x24564x4_0_1 : S32x24564.BroadcastsInDim S32x24564x4 (![0, 1] : Fin 2 → Fin S32x24564x4.rank)
  bcast_S_S32x24564x4 : S_.BroadcastsInDim S32x24564x4 (![] : Fin 0 → Fin S32x24564x4.rank)
  shapeCasts_S32x24564_S32x24564x1 : S32x24564.ShapeCasts S32x24564x1
  slices_S32x24564x4_S32x24564x2_0_0_0 : S32x24564x4.Slices ![0, 0, 0] S32x24564x2
  slices_S32x24564x4_S32x24564x2_0_0_2 : S32x24564x4.Slices ![0, 0, 2] S32x24564x2
  bcast_S_S32x24564x2 : S_.BroadcastsInDim S32x24564x2 (![] : Fin 0 → Fin S32x24564x2.rank)
  bcast_S24564x2_S1x24564x2_1_2 : S24564x2.BroadcastsInDim S1x24564x2 (![1, 2] : Fin 2 → Fin S1x24564x2.rank)
  bcast_S1x24564x2_S32x24564x2_0_1_2 : S1x24564x2.BroadcastsInDim S32x24564x2 (![0, 1, 2] : Fin 3 → Fin S32x24564x2.rank)
  concatenates_S32x24564x2_S32x24564x2_S32x24564x4_d2 : Shape.Concatenates [S32x24564x2, S32x24564x2] S32x24564x4 2
  bcast_S32x24564x1_S32x24564x4_0_1_2 : S32x24564x1.BroadcastsInDim S32x24564x4 (![0, 1, 2] : Fin 3 → Fin S32x24564x4.rank)
  reducesTo_S32x24564x4_S_d0_1_2 : S32x24564x4.ReducesTo [0, 1, 2] S_
  reducesTo_S32x24564x21_S32x24564_d2 : S32x24564x21.ReducesTo [2] S32x24564
  bcast_S32x24564x1_S32x24564x21_0_1_2 : S32x24564x1.BroadcastsInDim S32x24564x21 (![0, 1, 2] : Fin 3 → Fin S32x24564x21.rank)
  shapeCasts_S32x24564x1_S32x24564x1x1 : S32x24564x1.ShapeCasts S32x24564x1x1
  bcast_S_S32x24564x1x1 : S_.BroadcastsInDim S32x24564x1x1 (![] : Fin 0 → Fin S32x24564x1x1.rank)
  bcast_S1_S1x1x1x1_3 : S1.BroadcastsInDim S1x1x1x1 (![3] : Fin 1 → Fin S1x1x1x1.rank)
  bcast_S1x1x1x1_S32x24564x1x1_0_1_2_3 : S1x1x1x1.BroadcastsInDim S32x24564x1x1 (![0, 1, 2, 3] : Fin 4 → Fin S32x24564x1x1.rank)
  reducesTo_S32x24564x1x1_S32x24564x1_d3 : S32x24564x1x1.ReducesTo [3] S32x24564x1
  reducesTo_S32x24564_S_d0_1 : S32x24564.ReducesTo [0, 1] S_
  natLt_1_32 : 1 < 32
  reducesTo_S32x24564_S32_d1 : S32x24564.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x24564_0_1 : S32x1.BroadcastsInDim S32x24564 (![0, 1] : Fin 2 → Fin S32x24564.rank)
  reducesTo_S32_S_d0 : S32.ReducesTo [0] S_
  gather_S32x32x4_S32x24564x1_S32x24564x4_2_1_0_0_1_2_114_wf : GatherDims.WF S32x32x4 S32x24564x1 S32x24564x4 [2] [1] [0] [1] [0] 2 ![1, 1, 4]
  gather_S32x32_S32x24564x1_S32x24564_n_1_0_0_1_2_11_wf : GatherDims.WF S32x32 S32x24564x1 S32x24564 [] [1] [0] [1] [0] 2 ![1, 1]
  gather_S32x24564x21_S32x24564x1x1_S32x24564x1_n_2_01_01_2_3_111_wf : GatherDims.WF S32x24564x21 S32x24564x1x1 S32x24564x1 [] [2] [0, 1] [2] [0, 1] 3 ![1, 1, 1]

variable [Facts]

variable {F : FTy → Type} [FloatOps F]
def gather_S32x32x4_S32x24564x1_S32x24564x4_2_1_0_0_1_2_114 : GatherDims S32x32x4 S32x24564x1 S32x24564x4 where
  offsetDims := [2]
  collapsedSliceDims := [1]
  operandBatchingDims := [0]
  startIndicesBatchingDims := [0]
  startIndexMap := [1]
  indexVectorDim := 2
  sliceSizes := ![1, 1, 4]
  wf := gather_S32x32x4_S32x24564x1_S32x24564x4_2_1_0_0_1_2_114_wf
def gather_S32x32_S32x24564x1_S32x24564_n_1_0_0_1_2_11 : GatherDims S32x32 S32x24564x1 S32x24564 where
  offsetDims := []
  collapsedSliceDims := [1]
  operandBatchingDims := [0]
  startIndicesBatchingDims := [0]
  startIndexMap := [1]
  indexVectorDim := 2
  sliceSizes := ![1, 1]
  wf := gather_S32x32_S32x24564x1_S32x24564_n_1_0_0_1_2_11_wf
def gather_S32x24564x21_S32x24564x1x1_S32x24564x1_n_2_01_01_2_3_111 : GatherDims S32x24564x21 S32x24564x1x1 S32x24564x1 where
  offsetDims := []
  collapsedSliceDims := [2]
  operandBatchingDims := [0, 1]
  startIndicesBatchingDims := [0, 1]
  startIndexMap := [2]
  indexVectorDim := 3
  sliceSizes := ![1, 1, 1]
  wf := gather_S32x24564x21_S32x24564x1x1_S32x24564x1_n_2_01_01_2_3_111_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2

def fn_where {F : FTy → Type} [FloatOps F] (arg0 : IVec S32x32x24564 1) (arg1 : IVec S1x32x1 32) (arg2 : IVec S_ 32) : IVec S32x32x24564 32 :=
  let v0 : IVec S_ 32 := id arg2
  let v1 : IVec S32x32x24564 32 := broadcastInDim S32x32x24564 ![0, 1, 2] bcast_S1x32x1_S32x32x24564_0_1_2 arg1
  let v2 : IVec S32x32x24564 32 := broadcastInDim S32x32x24564 ![] bcast_S_S32x32x24564 v0
  let v3 : IVec S32x32x24564 32 := select arg0 v1 v2
  v3

def fn_where_0 {F : FTy → Type} [FloatOps F] (arg0 : IVec S32x24564 1) (arg1 : IVec S32x24564 32) (arg2 : IVec S32x24564 32) : IVec S32x24564 32 :=
  let v0 : IVec S32x24564 32 := select arg0 arg1 arg2
  v0

def fn_take_along_axis {F : FTy → Type} [FloatOps F] (arg0 : FVec F S32x32x4 .f32) (arg1 : IVec S32x24564x1 32) : FVec F S32x24564x4 .f32 :=
  let c : IVec S_ 32 := constantI S_ 32 0#32
  let v0 : IVec S32x24564x1 32 := broadcastInDim S32x24564x1 ![] bcast_S_S32x24564x1 c
  let v1 : IVec S32x24564x1 1 := cmpi .slt arg1 v0
  let c_0 : IVec S_ 32 := constantI S_ 32 32#32
  let v2 : IVec S32x24564x1 32 := broadcastInDim S32x24564x1 ![] bcast_S_S32x24564x1 c_0
  let v3 : IVec S32x24564x1 32 := addi arg1 v2
  let v4 : IVec S32x24564x1 32 := select v1 v3 arg1
  let c_1 : IVec S1 32 := constantI S1 32 31#32
  let c_2 : IVec S_ 32 := constantI S_ 32 0#32
  let v5 : IVec S32x24564x1 32 := broadcastInDim S32x24564x1 ![] bcast_S_S32x24564x1 c_2
  let v6 : IVec S32x24564x1 1 := cmpi .sge v4 v5
  let v7 : IVec S1x1x1 32 := broadcastInDim S1x1x1 ![2] bcast_S1_S1x1x1_2 c_1
  let v8 : IVec S32x24564x1 32 := broadcastInDim S32x24564x1 ![0, 1, 2] bcast_S1x1x1_S32x24564x1_0_1_2 v7
  let v9 : IVec S32x24564x1 1 := cmpi .sle v4 v8
  let v10 : IVec S32x24564x1 1 := andi v6 v9
  let c_3 : IVec S_ 1 := constantI S_ 1 1#1
  let v11 : IVec S32x24564 1 := (fun x v => Host.reduce IntOp.andi x v reducesTo_S32x24564x1_S32x24564_d2 h_S_) v10 c_3
  let v12 : FVec F S32x24564x4 .f32 := (fun x i => Host.gather gather_S32x32x4_S32x24564x1_S32x24564x4_2_1_0_0_1_2_114 x i) arg0 v4
  let v13 : IVec S32x24564x4 1 := broadcastInDim S32x24564x4 ![0, 1] bcast_S32x24564_S32x24564x4_0_1 v11
  let cst : FVec F S_ .f32 := constant S_ .f32 0x7FC00000#32
  let v14 : FVec F S32x24564x4 .f32 := broadcastInDim S32x24564x4 ![] bcast_S_S32x24564x4 cst
  let v15 : FVec F S32x24564x4 .f32 := select v13 v12 v14
  v15

def fn_take_along_axis_1 {F : FTy → Type} [FloatOps F] (arg0 : IVec S32x32 32) (arg1 : IVec S32x24564 32) : IVec S32x24564 32 :=
  let c : IVec S_ 32 := constantI S_ 32 0#32
  let v0 : IVec S32x24564 32 := broadcastInDim S32x24564 ![] bcast_S_S32x24564 c
  let v1 : IVec S32x24564 1 := cmpi .slt arg1 v0
  let c_0 : IVec S_ 32 := constantI S_ 32 32#32
  let v2 : IVec S32x24564 32 := broadcastInDim S32x24564 ![] bcast_S_S32x24564 c_0
  let v3 : IVec S32x24564 32 := addi arg1 v2
  let v4 : IVec S32x24564 32 := select v1 v3 arg1
  let v5 : IVec S32x24564x1 32 := shapeCast S32x24564x1 v4 shapeCasts_S32x24564_S32x24564x1
  let c_1 : IVec S1 32 := constantI S1 32 31#32
  let c_2 : IVec S_ 32 := constantI S_ 32 0#32
  let v6 : IVec S32x24564x1 32 := broadcastInDim S32x24564x1 ![] bcast_S_S32x24564x1 c_2
  let v7 : IVec S32x24564x1 1 := cmpi .sge v5 v6
  let v8 : IVec S1x1x1 32 := broadcastInDim S1x1x1 ![2] bcast_S1_S1x1x1_2 c_1
  let v9 : IVec S32x24564x1 32 := broadcastInDim S32x24564x1 ![0, 1, 2] bcast_S1x1x1_S32x24564x1_0_1_2 v8
  let v10 : IVec S32x24564x1 1 := cmpi .sle v5 v9
  let v11 : IVec S32x24564x1 1 := andi v7 v10
  let c_3 : IVec S_ 1 := constantI S_ 1 1#1
  let v12 : IVec S32x24564 1 := (fun x v => Host.reduce IntOp.andi x v reducesTo_S32x24564x1_S32x24564_d2 h_S_) v11 c_3
  let v13 : IVec S32x24564 32 := (fun x i => Host.gather gather_S32x32_S32x24564x1_S32x24564_n_1_0_0_1_2_11 x i) arg0 v5
  let c_4 : IVec S_ 32 := constantI S_ 32 2147483648#32
  let v14 : IVec S32x24564 32 := broadcastInDim S32x24564 ![] bcast_S_S32x24564 c_4
  let v15 : IVec S32x24564 32 := select v12 v13 v14
  v15

def fn_where_2 {F : FTy → Type} [FloatOps F] (arg0 : IVec S32x24564 1) (arg1 : IVec S32x24564 32) (arg2 : IVec S_ 32) : IVec S32x24564 32 :=
  let v0 : IVec S_ 32 := id arg2
  let v1 : IVec S32x24564 32 := broadcastInDim S32x24564 ![] bcast_S_S32x24564 v0
  let v2 : IVec S32x24564 32 := select arg0 arg1 v1
  v2

def fn_where_3 {F : FTy → Type} [FloatOps F] (arg0 : IVec S32x24564x4 1) (arg1 : FVec F S32x24564x4 .f32) (arg2 : FVec F S32x24564x4 .f32) : FVec F S32x24564x4 .f32 :=
  let v0 : FVec F S32x24564x4 .f32 := select arg0 arg1 arg2
  v0

def fn_log_softmax {F : FTy → Type} [FloatOps F] (arg0 : FVec F S32x24564x21 .f32) : FVec F S32x24564x21 .f32 :=
  let cst : FVec F S_ .f32 := constant S_ .f32 0xFF800000#32
  let v0 : FVec F S32x24564 .f32 := (fun x v => Host.reduce FloatOps.maximumf x v reducesTo_S32x24564x21_S32x24564_d2 h_S_) arg0 cst
  let cst_0 : FVec F S_ .f32 := constant S_ .f32 0xFF800000#32
  let v1 : FVec F S32x24564 .f32 := broadcastInDim S32x24564 ![] bcast_S_S32x24564 cst_0
  let v2 : FVec F S32x24564 .f32 := maximumf v1 v0
  let v3 : FVec F S32x24564x1 .f32 := broadcastInDim S32x24564x1 ![0, 1] bcast_S32x24564_S32x24564x1_0_1 v2
  let v4 : FVec F S32x24564x21 .f32 := broadcastInDim S32x24564x21 ![0, 1, 2] bcast_S32x24564x1_S32x24564x21_0_1_2 v3
  let v5 : FVec F S32x24564x21 .f32 := subf arg0 v4
  let v6 : FVec F S32x24564x21 .f32 := Host.exp v5
  let cst_1 : FVec F S_ .f32 := constant S_ .f32 0x00000000#32
  let v7 : FVec F S32x24564 .f32 := (fun x v => Host.reduceAdd x v reducesTo_S32x24564x21_S32x24564_d2 h_S_) v6 cst_1
  let v8 : FVec F S32x24564x1 .f32 := broadcastInDim S32x24564x1 ![0, 1] bcast_S32x24564_S32x24564x1_0_1 v7
  let v9 : FVec F S32x24564x1 .f32 := Host.log v8
  let v10 : FVec F S32x24564x21 .f32 := broadcastInDim S32x24564x21 ![0, 1, 2] bcast_S32x24564x1_S32x24564x21_0_1_2 v9
  let v11 : FVec F S32x24564x21 .f32 := subf v5 v10
  v11

def fn_take_along_axis_4 {F : FTy → Type} [FloatOps F] (arg0 : FVec F S32x24564x21 .f32) (arg1 : IVec S32x24564x1 32) : FVec F S32x24564x1 .f32 :=
  let c : IVec S_ 32 := constantI S_ 32 0#32
  let v0 : IVec S32x24564x1 32 := broadcastInDim S32x24564x1 ![] bcast_S_S32x24564x1 c
  let v1 : IVec S32x24564x1 1 := cmpi .slt arg1 v0
  let c_0 : IVec S_ 32 := constantI S_ 32 21#32
  let v2 : IVec S32x24564x1 32 := broadcastInDim S32x24564x1 ![] bcast_S_S32x24564x1 c_0
  let v3 : IVec S32x24564x1 32 := addi arg1 v2
  let v4 : IVec S32x24564x1 32 := select v1 v3 arg1
  let v5 : IVec S32x24564x1x1 32 := shapeCast S32x24564x1x1 v4 shapeCasts_S32x24564x1_S32x24564x1x1
  let c_1 : IVec S1 32 := constantI S1 32 20#32
  let c_2 : IVec S_ 32 := constantI S_ 32 0#32
  let v6 : IVec S32x24564x1x1 32 := broadcastInDim S32x24564x1x1 ![] bcast_S_S32x24564x1x1 c_2
  let v7 : IVec S32x24564x1x1 1 := cmpi .sge v5 v6
  let v8 : IVec S1x1x1x1 32 := broadcastInDim S1x1x1x1 ![3] bcast_S1_S1x1x1x1_3 c_1
  let v9 : IVec S32x24564x1x1 32 := broadcastInDim S32x24564x1x1 ![0, 1, 2, 3] bcast_S1x1x1x1_S32x24564x1x1_0_1_2_3 v8
  let v10 : IVec S32x24564x1x1 1 := cmpi .sle v5 v9
  let v11 : IVec S32x24564x1x1 1 := andi v7 v10
  let c_3 : IVec S_ 1 := constantI S_ 1 1#1
  let v12 : IVec S32x24564x1 1 := (fun x v => Host.reduce IntOp.andi x v reducesTo_S32x24564x1x1_S32x24564x1_d3 h_S_) v11 c_3
  let v13 : FVec F S32x24564x1 .f32 := (fun x i => Host.gather gather_S32x24564x21_S32x24564x1x1_S32x24564x1_n_2_01_01_2_3_111 x i) arg0 v5
  let cst : FVec F S_ .f32 := constant S_ .f32 0x7FC00000#32
  let v14 : FVec F S32x24564x1 .f32 := broadcastInDim S32x24564x1 ![] bcast_S_S32x24564x1 cst
  let v15 : FVec F S32x24564x1 .f32 := select v12 v13 v14
  v15

def fn_where_5 {F : FTy → Type} [FloatOps F] (arg0 : IVec S32x24564 1) (arg1 : FVec F S_ .f32) (arg2 : FVec F S32x24564 .f32) : FVec F S32x24564 .f32 :=
  let v0 : FVec F S_ .f32 := id arg1
  let v1 : FVec F S32x24564 .f32 := broadcastInDim S32x24564 ![] bcast_S_S32x24564 v0
  let v2 : FVec F S32x24564 .f32 := select arg0 v1 arg2
  v2

def fn_argsort {F : FTy → Type} [FloatOps F] (arg0 : FVec F S32x24564 .f32) : IVec S32x24564 32 :=
  let v0 : IVec S32x24564 32 := iotaInDim S32x24564 32 1
  let v1_0 : FVec F S32x24564 .f32 := (fun x y => (Host.sort2 S32x24564 1 comparator_f32_i32_d1 x y).1) arg0 v0
  let v1_1 : IVec S32x24564 32 := (fun x y => (Host.sort2 S32x24564 1 comparator_f32_i32_d1 x y).2) arg0 v0
  v1_1

def fn_argsort_6 {F : FTy → Type} [FloatOps F] (arg0 : IVec S32x24564 32) : IVec S32x24564 32 :=
  let v0 : IVec S32x24564 32 := iotaInDim S32x24564 32 1
  let v1_0 : IVec S32x24564 32 := (fun x y => (Host.sort2 S32x24564 1 comparator_i32_i32_d1 x y).1) arg0 v0
  let v1_1 : IVec S32x24564 32 := (fun x y => (Host.sort2 S32x24564 1 comparator_i32_i32_d1 x y).2) arg0 v0
  v1_1

def fn_part10 {F : FTy → Type} [FloatOps F] (main_arg5 : FVec F S_ .f32) (main_arg6 : FVec F S_ .f32) (main_arg7 : FVec F S_ .f32) (main_v201 : IVec S_ 1) : IVec S_ 1 :=
  let main_v202 : FVec F S_ .f32 := addf main_arg6 main_arg7
  let main_v203 : IVec S_ 1 := cmpf .oeq main_arg5 main_v202
  let main_v204 : IVec S_ 1 := andi main_v201 main_v203
  main_v204

def fn_part9 {F : FTy → Type} [FloatOps F] (main_arg5 : FVec F S_ .f32) (main_arg6 : FVec F S_ .f32) (main_arg7 : FVec F S_ .f32) (main_v159 : FVec F S_ .f32) (main_v166 : FVec F S_ .f32) (main_v167 : FVec F S32x24564 .f32) (main_v169 : IVec S32 32) (main_v184 : FVec F S32x24564 .f32) : IVec S_ 1 :=
  let main_cst_27 : FVec F S_ .f32 := constant S_ .f32 0x00000000#32
  let main_v185 : FVec F S_ .f32 := (fun x v => Host.reduceAdd x v reducesTo_S32x24564_S_d0_1 h_S_) main_v184 main_cst_27
  let main_c_28 : IVec S_ 32 := constantI S_ 32 0#32
  let main_v186 : IVec S_ 32 := (fun x v => Host.reduce IntOp.addi x v reducesTo_S32_S_d0 h_S_) main_v169 main_c_28
  let main_v187 : FVec F S_ .f32 := sitofp .f32 main_v186
  let main_cst_29 : FVec F S_ .f32 := constant S_ .f32 0x3F800000#32
  let main_v188 : FVec F S_ .f32 := maximumf main_v187 main_cst_29
  let main_v189 : FVec F S_ .f32 := addf main_v166 main_v185
  let main_v190 : FVec F S_ .f32 := Host.divf main_v189 main_v188
  let main_cst_30 : FVec F S_ .f32 := constant S_ .f32 0xFF800000#32
  let main_v191 : FVec F S_ .f32 := (fun x v => Host.reduce FloatOps.maximumf x v reducesTo_S32x24564_S_d0_1 h_S_) main_v167 main_cst_30
  let main_cst_31 : FVec F S_ .f32 := constant S_ .f32 0x3F800000#32
  let main_v192 : FVec F S_ .f32 := addf main_v191 main_cst_31
  let main_cst_32 : FVec F S_ .f32 := constant S_ .f32 0x2A800000#32
  let main_v193 : FVec F S_ .f32 := mulf main_v192 main_cst_32
  let main_cst_33 : FVec F S_ .f32 := constant S_ .f32 0x40400000#32
  let main_v194 : FVec F S_ .f32 := mulf main_cst_33 main_v193
  let main_v195 : IVec S_ 1 := cmpf .ole main_v190 main_arg7
  let main_v196 : FVec F S_ .f32 := addf main_v190 main_v194
  let main_v197 : IVec S_ 1 := cmpf .ole main_arg7 main_v196
  let main_v198 : IVec S_ 1 := andi main_v195 main_v197
  let main_v199 : FVec F S_ .f32 := Host.divf main_v159 main_v188
  let main_v200 : IVec S_ 1 := cmpf .oeq main_arg6 main_v199
  let main_v201 : IVec S_ 1 := andi main_v198 main_v200
  fn_part10 (F := F) main_arg5 main_arg6 main_arg7 main_v201

def fn_part8 {F : FTy → Type} [FloatOps F] (main_arg5 : FVec F S_ .f32) (main_arg6 : FVec F S_ .f32) (main_arg7 : FVec F S_ .f32) (main_v98 : IVec S32x24564 1) (main_v159 : FVec F S_ .f32) (main_v164 : FVec F S32x24564 .f32) (main_v165 : FVec F S32x24564 .f32) (main_cst_21 : FVec F S_ .f32) : IVec S_ 1 :=
  let main_v166 : FVec F S_ .f32 := (fun x v => Host.reduceAdd x v reducesTo_S32x24564_S_d0_1 h_S_) main_v165 main_cst_21
  let main_cst_22 : FVec F S_ .f32 := constant S_ .f32 0x00000000#32
  let main_v167 : FVec F S32x24564 .f32 := fn_where_5 (F := F) main_v98 main_cst_22 main_v164
  let main_v168 : IVec S32x24564 32 := (extui 32 · natLt_1_32) main_v98
  let main_c_23 : IVec S_ 32 := constantI S_ 32 0#32
  let main_v169 : IVec S32 32 := (fun x v => Host.reduce IntOp.addi x v reducesTo_S32x24564_S32_d1 h_S_) main_v168 main_c_23
  let main_c_24 : IVec S_ 32 := constantI S_ 32 3#32
  let main_v170 : IVec S32 32 := broadcastInDim S32 ![] bcast_S_S32 main_c_24
  let main_v171 : IVec S32 32 := muli main_v170 main_v169
  let main_c_25 : IVec S_ 32 := constantI S_ 32 24564#32
  let main_v172 : IVec S32 32 := broadcastInDim S32 ![] bcast_S_S32 main_c_25
  let main_v173 : IVec S32 32 := subi main_v172 main_v169
  let main_v174 : IVec S32 32 := minsi main_v171 main_v173
  let main_c_26 : IVec S_ 32 := constantI S_ 32 0#32
  let main_v175 : IVec S32 32 := broadcastInDim S32 ![] bcast_S_S32 main_c_26
  let main_v176 : IVec S32 32 := maxsi main_v174 main_v175
  let main_v177 : FVec F S32x24564 .f32 := Host.negf main_v167
  let main_v178 : IVec S32x24564 32 := fn_argsort (F := F) main_v177
  let main_v179 : IVec S32x24564 32 := fn_argsort_6 (F := F) main_v178
  let main_v180 : IVec S32x1 32 := broadcastInDim S32x1 ![0] bcast_S32_S32x1_0 main_v176
  let main_v181 : IVec S32x24564 32 := broadcastInDim S32x24564 ![0, 1] bcast_S32x1_S32x24564_0_1 main_v180
  let main_v182 : IVec S32x24564 1 := cmpi .slt main_v179 main_v181
  let main_v183 : FVec F S32x24564 .f32 := uitofp .f32 main_v182
  let main_v184 : FVec F S32x24564 .f32 := mulf main_v167 main_v183
  fn_part9 (F := F) main_arg5 main_arg6 main_arg7 main_v159 main_v166 main_v167 main_v169 main_v184

def fn_part7 {F : FTy → Type} [FloatOps F] (main_arg1 : FVec F S32x24564x21 .f32) (main_arg5 : FVec F S_ .f32) (main_arg6 : FVec F S_ .f32) (main_arg7 : FVec F S_ .f32) (main_v98 : IVec S32x24564 1) (main_v140 : FVec F S32x24564 .f32) (main_v145 : IVec S32x24564 32) (main_v146 : FVec F S32x24564x4 .f32) : IVec S_ 1 :=
  let main_v147 : FVec F S32x24564x4 .f32 := Host.absf main_v146
  let main_cst_17 : FVec F S_ .f32 := constant S_ .f32 0x3F800000#32
  let main_v148 : FVec F S32x24564x4 .f32 := broadcastInDim S32x24564x4 ![] bcast_S_S32x24564x4 main_cst_17
  let main_v149 : IVec S32x24564x4 1 := cmpf .olt main_v147 main_v148
  let main_cst_18 : FVec F S_ .f32 := constant S_ .f32 0x3F000000#32
  let main_v150 : FVec F S32x24564x4 .f32 := broadcastInDim S32x24564x4 ![] bcast_S_S32x24564x4 main_cst_18
  let main_v151 : FVec F S32x24564x4 .f32 := mulf main_v150 main_v146
  let main_v152 : FVec F S32x24564x4 .f32 := mulf main_v151 main_v146
  let main_cst_19 : FVec F S_ .f32 := constant S_ .f32 0x3F000000#32
  let main_v153 : FVec F S32x24564x4 .f32 := broadcastInDim S32x24564x4 ![] bcast_S_S32x24564x4 main_cst_19
  let main_v154 : FVec F S32x24564x4 .f32 := subf main_v147 main_v153
  let main_v155 : FVec F S32x24564x4 .f32 := fn_where_3 (F := F) main_v149 main_v152 main_v154
  let main_v156 : FVec F S32x24564x1 .f32 := broadcastInDim S32x24564x1 ![0, 1] bcast_S32x24564_S32x24564x1_0_1 main_v140
  let main_v157 : FVec F S32x24564x4 .f32 := broadcastInDim S32x24564x4 ![0, 1, 2] bcast_S32x24564x1_S32x24564x4_0_1_2 main_v156
  let main_v158 : FVec F S32x24564x4 .f32 := mulf main_v155 main_v157
  let main_cst_20 : FVec F S_ .f32 := constant S_ .f32 0x00000000#32
  let main_v159 : FVec F S_ .f32 := (fun x v => Host.reduceAdd x v reducesTo_S32x24564x4_S_d0_1_2 h_S_) main_v158 main_cst_20
  let main_v160 : FVec F S32x24564x21 .f32 := fn_log_softmax (F := F) main_arg1
  let main_v161 : IVec S32x24564x1 32 := broadcastInDim S32x24564x1 ![0, 1] bcast_S32x24564_S32x24564x1_0_1 main_v145
  let main_v162 : FVec F S32x24564x1 .f32 := fn_take_along_axis_4 (F := F) main_v160 main_v161
  let main_v163 : FVec F S32x24564 .f32 := shapeCast S32x24564 main_v162 shapeCasts_S32x24564x1_S32x24564
  let main_v164 : FVec F S32x24564 .f32 := Host.negf main_v163
  let main_v165 : FVec F S32x24564 .f32 := mulf main_v164 main_v140
  let main_cst_21 : FVec F S_ .f32 := constant S_ .f32 0x00000000#32
  fn_part8 (F := F) main_arg5 main_arg6 main_arg7 main_v98 main_v159 main_v164 main_v165 main_cst_21

def fn_part6 {F : FTy → Type} [FloatOps F] (main_arg0 : FVec F S32x24564x4 .f32) (main_arg1 : FVec F S32x24564x21 .f32) (main_arg4 : FVec F S24564x4 .f32) (main_arg5 : FVec F S_ .f32) (main_arg6 : FVec F S_ .f32) (main_arg7 : FVec F S_ .f32) (main_v98 : IVec S32x24564 1) (main_v116 : IVec S32x24564 32) (main_v121 : FVec F S32x24564x2 .f32) (main_v124 : FVec F S32x24564x2 .f32) : IVec S_ 1 :=
  let main_v125 : FVec F S24564x2 .f32 := (extractStridedSlice S24564x2 ![0, 0] · slices_S24564x4_S24564x2_0_0) main_arg4
  let main_v126 : FVec F S1x24564x2 .f32 := broadcastInDim S1x24564x2 ![1, 2] bcast_S24564x2_S1x24564x2_1_2 main_v125
  let main_v127 : FVec F S32x24564x2 .f32 := broadcastInDim S32x24564x2 ![0, 1, 2] bcast_S1x24564x2_S32x24564x2_0_1_2 main_v126
  let main_v128 : FVec F S32x24564x2 .f32 := subf main_v121 main_v127
  let main_v129 : FVec F S24564x2 .f32 := (extractStridedSlice S24564x2 ![0, 2] · slices_S24564x4_S24564x2_0_2) main_arg4
  let main_v130 : FVec F S1x24564x2 .f32 := broadcastInDim S1x24564x2 ![1, 2] bcast_S24564x2_S1x24564x2_1_2 main_v129
  let main_v131 : FVec F S32x24564x2 .f32 := broadcastInDim S32x24564x2 ![0, 1, 2] bcast_S1x24564x2_S32x24564x2_0_1_2 main_v130
  let main_v132 : FVec F S32x24564x2 .f32 := Host.divf main_v128 main_v131
  let main_v133 : FVec F S24564x2 .f32 := (extractStridedSlice S24564x2 ![0, 2] · slices_S24564x4_S24564x2_0_2) main_arg4
  let main_v134 : FVec F S1x24564x2 .f32 := broadcastInDim S1x24564x2 ![1, 2] bcast_S24564x2_S1x24564x2_1_2 main_v133
  let main_v135 : FVec F S32x24564x2 .f32 := broadcastInDim S32x24564x2 ![0, 1, 2] bcast_S1x24564x2_S32x24564x2_0_1_2 main_v134
  let main_v136 : FVec F S32x24564x2 .f32 := Host.divf main_v124 main_v135
  let main_cst_15 : FVec F S_ .f32 := constant S_ .f32 0x33D6BF95#32
  let main_v137 : FVec F S32x24564x2 .f32 := broadcastInDim S32x24564x2 ![] bcast_S_S32x24564x2 main_cst_15
  let main_v138 : FVec F S32x24564x2 .f32 := addf main_v136 main_v137
  let main_v139 : FVec F S32x24564x2 .f32 := Host.log main_v138
  let main_v140 : FVec F S32x24564 .f32 := uitofp .f32 main_v98
  let main_v141 : FVec F S32x24564x4 .f32 := (fun a b => concatenate S32x24564x4 2 [⟨S32x24564x2, a⟩, ⟨S32x24564x2, b⟩] concatenates_S32x24564x2_S32x24564x2_S32x24564x4_d2) main_v132 main_v139
  let main_v142 : FVec F S32x24564x1 .f32 := broadcastInDim S32x24564x1 ![0, 1] bcast_S32x24564_S32x24564x1_0_1 main_v140
  let main_v143 : FVec F S32x24564x4 .f32 := broadcastInDim S32x24564x4 ![0, 1, 2] bcast_S32x24564x1_S32x24564x4_0_1_2 main_v142
  let main_v144 : FVec F S32x24564x4 .f32 := mulf main_v141 main_v143
  let main_c_16 : IVec S_ 32 := constantI S_ 32 0#32
  let main_v145 : IVec S32x24564 32 := fn_where_2 (F := F) main_v98 main_v116 main_c_16
  let main_v146 : FVec F S32x24564x4 .f32 := subf main_arg0 main_v144
  fn_part7 (F := F) main_arg1 main_arg5 main_arg6 main_arg7 main_v98 main_v140 main_v145 main_v146

def fn_part5 {F : FTy → Type} [FloatOps F] (main_arg0 : FVec F S32x24564x4 .f32) (main_arg1 : FVec F S32x24564x21 .f32) (main_arg2 : FVec F S32x32x4 .f32) (main_arg3 : IVec S32x32 32) (main_arg4 : FVec F S24564x4 .f32) (main_arg5 : FVec F S_ .f32) (main_arg6 : FVec F S_ .f32) (main_arg7 : FVec F S_ .f32) (main_v83 : IVec S32x24564 32) (main_v98 : IVec S32x24564 1) (main_v104 : IVec S32x32x24564 1) (main_v105 : IVec S32 32) : IVec S_ 1 :=
  let main_v106 : IVec S1x32x1 32 := broadcastInDim S1x32x1 ![1] bcast_S32_S1x32x1_1 main_v105
  let main_c_10 : IVec S_ 32 := constantI S_ 32 4294967295#32
  let main_v107 : IVec S32x32x24564 32 := fn_where (F := F) main_v104 main_v106 main_c_10
  let main_c_11 : IVec S_ 32 := constantI S_ 32 2147483648#32
  let main_v108 : IVec S32x24564 32 := (fun x v => Host.reduce IntOp.maxsi x v reducesTo_S32x32x24564_S32x24564_d1 h_S_) main_v107 main_c_11
  let main_c_12 : IVec S_ 32 := constantI S_ 32 0#32
  let main_v109 : IVec S32x24564 32 := broadcastInDim S32x24564 ![] bcast_S_S32x24564 main_c_12
  let main_v110 : IVec S32x24564 1 := cmpi .sge main_v108 main_v109
  let main_v111 : IVec S32x24564 32 := fn_where_0 (F := F) main_v110 main_v108 main_v83
  let main_v112 : IVec S32x24564x1 32 := broadcastInDim S32x24564x1 ![0, 1] bcast_S32x24564_S32x24564x1_0_1 main_v111
  let main_v113 : FVec F S32x24564x4 .f32 := fn_take_along_axis (F := F) main_arg2 main_v112
  let main_v114 : IVec S32x24564 32 := fn_take_along_axis_1 (F := F) main_arg3 main_v111
  let main_c_13 : IVec S_ 32 := constantI S_ 32 1#32
  let main_v115 : IVec S32x24564 32 := broadcastInDim S32x24564 ![] bcast_S_S32x24564 main_c_13
  let main_v116 : IVec S32x24564 32 := addi main_v114 main_v115
  let main_v117 : FVec F S32x24564x2 .f32 := (extractStridedSlice S32x24564x2 ![0, 0, 0] · slices_S32x24564x4_S32x24564x2_0_0_0) main_v113
  let main_v118 : FVec F S32x24564x2 .f32 := (extractStridedSlice S32x24564x2 ![0, 0, 2] · slices_S32x24564x4_S32x24564x2_0_0_2) main_v113
  let main_v119 : FVec F S32x24564x2 .f32 := addf main_v117 main_v118
  let main_cst_14 : FVec F S_ .f32 := constant S_ .f32 0x40000000#32
  let main_v120 : FVec F S32x24564x2 .f32 := broadcastInDim S32x24564x2 ![] bcast_S_S32x24564x2 main_cst_14
  let main_v121 : FVec F S32x24564x2 .f32 := Host.divf main_v119 main_v120
  let main_v122 : FVec F S32x24564x2 .f32 := (extractStridedSlice S32x24564x2 ![0, 0, 2] · slices_S32x24564x4_S32x24564x2_0_0_2) main_v113
  let main_v123 : FVec F S32x24564x2 .f32 := (extractStridedSlice S32x24564x2 ![0, 0, 0] · slices_S32x24564x4_S32x24564x2_0_0_0) main_v113
  let main_v124 : FVec F S32x24564x2 .f32 := subf main_v122 main_v123
  fn_part6 (F := F) main_arg0 main_arg1 main_arg4 main_arg5 main_arg6 main_arg7 main_v98 main_v116 main_v121 main_v124

def fn_part4 {F : FTy → Type} [FloatOps F] (main_arg0 : FVec F S32x24564x4 .f32) (main_arg1 : FVec F S32x24564x21 .f32) (main_arg2 : FVec F S32x32x4 .f32) (main_arg3 : IVec S32x32 32) (main_arg4 : FVec F S24564x4 .f32) (main_arg5 : FVec F S_ .f32) (main_arg6 : FVec F S_ .f32) (main_arg7 : FVec F S_ .f32) (main_v79 : FVec F S32x32 .f32) (main_v80 : IVec S32x32 32) (main_v81 : FVec F S32x24564 .f32) (main_v83 : IVec S32x24564 32) (main_cst_8 : FVec F S_ .f32) : IVec S_ 1 :=
  let main_v84 : FVec F S32x24564 .f32 := broadcastInDim S32x24564 ![] bcast_S_S32x24564 main_cst_8
  let main_v85 : IVec S32x24564 1 := cmpf .ogt main_v81 main_v84
  let main_v86 : IVec S24564 32 := iotaInDim S24564 32 0
  let main_v87 : IVec S1x1x24564 32 := broadcastInDim S1x1x24564 ![2] bcast_S24564_S1x1x24564_2 main_v86
  let main_v88 : IVec S32x32x1 32 := broadcastInDim S32x32x1 ![0, 1] bcast_S32x32_S32x32x1_0_1 main_v80
  let main_v89 : IVec S32x32x24564 32 := broadcastInDim S32x32x24564 ![0, 1, 2] bcast_S1x1x24564_S32x32x24564_0_1_2 main_v87
  let main_v90 : IVec S32x32x24564 32 := broadcastInDim S32x32x24564 ![0, 1, 2] bcast_S32x32x1_S32x32x24564_0_1_2 main_v88
  let main_v91 : IVec S32x32x24564 1 := cmpi .eq main_v89 main_v90
  let main_v92 : FVec F S32x32x1 .f32 := broadcastInDim S32x32x1 ![0, 1] bcast_S32x32_S32x32x1_0_1 main_v79
  let main_cst_9 : FVec F S_ .f32 := constant S_ .f32 0x3727C5AC#32
  let main_v93 : FVec F S32x32x1 .f32 := broadcastInDim S32x32x1 ![] bcast_S_S32x32x1 main_cst_9
  let main_v94 : IVec S32x32x1 1 := cmpf .ogt main_v92 main_v93
  let main_v95 : IVec S32x32x24564 1 := broadcastInDim S32x32x24564 ![0, 1, 2] bcast_S32x32x1_S32x32x24564_0_1_2 main_v94
  let main_v96 : IVec S32x32x24564 1 := andi main_v91 main_v95
  let main_c : IVec S_ 1 := constantI S_ 1 0#1
  let main_v97 : IVec S32x24564 1 := (fun x v => Host.reduce IntOp.ori x v reducesTo_S32x32x24564_S32x24564_d1 h_S_) main_v96 main_c
  let main_v98 : IVec S32x24564 1 := ori main_v85 main_v97
  let main_v99 : FVec F S32x1x24564 .f32 := broadcastInDim S32x1x24564 ![0, 2] bcast_S32x24564_S32x1x24564_0_2 main_v81
  let main_v100 : FVec F S32x32x1 .f32 := broadcastInDim S32x32x1 ![0, 1] bcast_S32x32_S32x32x1_0_1 main_v79
  let main_v101 : FVec F S32x32x24564 .f32 := broadcastInDim S32x32x24564 ![0, 1, 2] bcast_S32x1x24564_S32x32x24564_0_1_2 main_v99
  let main_v102 : FVec F S32x32x24564 .f32 := broadcastInDim S32x32x24564 ![0, 1, 2] bcast_S32x32x1_S32x32x24564_0_1_2 main_v100
  let main_v103 : IVec S32x32x24564 1 := cmpf .olt main_v101 main_v102
  let main_v104 : IVec S32x32x24564 1 := andi main_v96 main_v103
  let main_v105 : IVec S32 32 := iotaInDim S32 32 0
  fn_part5 (F := F) main_arg0 main_arg1 main_arg2 main_arg3 main_arg4 main_arg5 main_arg6 main_arg7 main_v83 main_v98 main_v104 main_v105

def fn_part3 {F : FTy → Type} [FloatOps F] (main_arg0 : FVec F S32x24564x4 .f32) (main_arg1 : FVec F S32x24564x21 .f32) (main_arg2 : FVec F S32x32x4 .f32) (main_arg3 : IVec S32x32 32) (main_arg4 : FVec F S24564x4 .f32) (main_arg5 : FVec F S_ .f32) (main_arg6 : FVec F S_ .f32) (main_arg7 : FVec F S_ .f32) (main_v47 : FVec F S32x32x24564 .f32) (main_v58 : FVec F S32x32 .f32) (main_v63 : FVec F S24564 .f32) (main_v65 : FVec F S24564 .f32) (main_v67 : FVec F S24564 .f32) : IVec S_ 1 :=
  let main_v68 : FVec F S24564 .f32 := subf main_v65 main_v67
  let main_v69 : FVec F S24564 .f32 := mulf main_v63 main_v68
  let main_v70 : FVec F S32x32x1 .f32 := broadcastInDim S32x32x1 ![0, 1] bcast_S32x32_S32x32x1_0_1 main_v58
  let main_v71 : FVec F S1x1x24564 .f32 := broadcastInDim S1x1x24564 ![2] bcast_S24564_S1x1x24564_2 main_v69
  let main_v72 : FVec F S32x32x24564 .f32 := broadcastInDim S32x32x24564 ![0, 1, 2] bcast_S32x32x1_S32x32x24564_0_1_2 main_v70
  let main_v73 : FVec F S32x32x24564 .f32 := broadcastInDim S32x32x24564 ![0, 1, 2] bcast_S1x1x24564_S32x32x24564_0_1_2 main_v71
  let main_v74 : FVec F S32x32x24564 .f32 := addf main_v72 main_v73
  let main_v75 : FVec F S32x32x24564 .f32 := subf main_v74 main_v47
  let main_cst_3 : FVec F S_ .f32 := constant S_ .f32 0x33D6BF95#32
  let main_v76 : FVec F S32x32x24564 .f32 := broadcastInDim S32x32x24564 ![] bcast_S_S32x32x24564 main_cst_3
  let main_v77 : FVec F S32x32x24564 .f32 := addf main_v75 main_v76
  let main_v78 : FVec F S32x32x24564 .f32 := Host.divf main_v47 main_v77
  let main_cst_4 : FVec F S_ .f32 := constant S_ .f32 0xFF800000#32
  let main_v79 : FVec F S32x32 .f32 := (fun x v => Host.reduce FloatOps.maximumf x v reducesTo_S32x32x24564_S32x32_d2 h_S_) main_v78 main_cst_4
  let main_values : FVec F S32x32x1 .f32 := (fun x => (Host.topK S32x32x1 2 (FloatOps.cmpfTotal .gt) x sliceFits_S32x32x24564_S32x32x1).1) main_v78
  let main_indices : IVec S32x32x1 32 := (fun x => (Host.topK S32x32x1 2 (FloatOps.cmpfTotal .gt) x sliceFits_S32x32x24564_S32x32x1).2) main_v78
  let main_v80 : IVec S32x32 32 := shapeCast S32x32 main_indices shapeCasts_S32x32x1_S32x32
  let main_cst_5 : FVec F S_ .f32 := constant S_ .f32 0xFF800000#32
  let main_v81 : FVec F S32x24564 .f32 := (fun x v => Host.reduce FloatOps.maximumf x v reducesTo_S32x32x24564_S32x24564_d1 h_S_) main_v78 main_cst_5
  let main_v82 : FVec F S32x24564x32 .f32 := (transpose S32x24564x32 [0, 2, 1] · transposes_S32x32x24564_S32x24564x32_0_2_1) main_v78
  let main_values_6 : FVec F S32x24564x1 .f32 := (fun x => (Host.topK S32x24564x1 2 (FloatOps.cmpfTotal .gt) x sliceFits_S32x24564x32_S32x24564x1).1) main_v82
  let main_indices_7 : IVec S32x24564x1 32 := (fun x => (Host.topK S32x24564x1 2 (FloatOps.cmpfTotal .gt) x sliceFits_S32x24564x32_S32x24564x1).2) main_v82
  let main_v83 : IVec S32x24564 32 := shapeCast S32x24564 main_indices_7 shapeCasts_S32x24564x1_S32x24564
  let main_cst_8 : FVec F S_ .f32 := constant S_ .f32 0x3F000000#32
  fn_part4 (F := F) main_arg0 main_arg1 main_arg2 main_arg3 main_arg4 main_arg5 main_arg6 main_arg7 main_v79 main_v80 main_v81 main_v83 main_cst_8

def fn_part2 {F : FTy → Type} [FloatOps F] (main_arg0 : FVec F S32x24564x4 .f32) (main_arg1 : FVec F S32x24564x21 .f32) (main_arg2 : FVec F S32x32x4 .f32) (main_arg3 : IVec S32x32 32) (main_arg4 : FVec F S24564x4 .f32) (main_arg5 : FVec F S_ .f32) (main_arg6 : FVec F S_ .f32) (main_arg7 : FVec F S_ .f32) (main_v10 : FVec F S24564x4 .f32) (main_v29 : FVec F S32x32x24564 .f32) (main_v44 : FVec F S32x32x24564 .f32) : IVec S_ 1 :=
  let main_cst_2 : FVec F S_ .f32 := constant S_ .f32 0x00000000#32
  let main_v45 : FVec F S32x32x24564 .f32 := broadcastInDim S32x32x24564 ![] bcast_S_S32x32x24564 main_cst_2
  let main_v46 : FVec F S32x32x24564 .f32 := maximumf main_v44 main_v45
  let main_v47 : FVec F S32x32x24564 .f32 := mulf main_v29 main_v46
  let main_v48 : FVec F S32x32x1 .f32 := (extractStridedSlice S32x32x1 ![0, 0, 2] · slices_S32x32x4_S32x32x1_0_0_2) main_arg2
  let main_v49 : FVec F S32x32 .f32 := shapeCast S32x32 main_v48 shapeCasts_S32x32x1_S32x32
  let main_v50 : FVec F S32x32x1 .f32 := (extractStridedSlice S32x32x1 ![0, 0, 0] · slices_S32x32x4_S32x32x1_0_0_0) main_arg2
  let main_v51 : FVec F S32x32 .f32 := shapeCast S32x32 main_v50 shapeCasts_S32x32x1_S32x32
  let main_v52 : FVec F S32x32 .f32 := subf main_v49 main_v51
  let main_v53 : FVec F S32x32x1 .f32 := (extractStridedSlice S32x32x1 ![0, 0, 3] · slices_S32x32x4_S32x32x1_0_0_3) main_arg2
  let main_v54 : FVec F S32x32 .f32 := shapeCast S32x32 main_v53 shapeCasts_S32x32x1_S32x32
  let main_v55 : FVec F S32x32x1 .f32 := (extractStridedSlice S32x32x1 ![0, 0, 1] · slices_S32x32x4_S32x32x1_0_0_1) main_arg2
  let main_v56 : FVec F S32x32 .f32 := shapeCast S32x32 main_v55 shapeCasts_S32x32x1_S32x32
  let main_v57 : FVec F S32x32 .f32 := subf main_v54 main_v56
  let main_v58 : FVec F S32x32 .f32 := mulf main_v52 main_v57
  let main_v59 : FVec F S24564x1 .f32 := (extractStridedSlice S24564x1 ![0, 2] · slices_S24564x4_S24564x1_0_2) main_v10
  let main_v60 : FVec F S24564 .f32 := shapeCast S24564 main_v59 shapeCasts_S24564x1_S24564
  let main_v61 : FVec F S24564x1 .f32 := (extractStridedSlice S24564x1 ![0, 0] · slices_S24564x4_S24564x1_0_0) main_v10
  let main_v62 : FVec F S24564 .f32 := shapeCast S24564 main_v61 shapeCasts_S24564x1_S24564
  let main_v63 : FVec F S24564 .f32 := subf main_v60 main_v62
  let main_v64 : FVec F S24564x1 .f32 := (extractStridedSlice S24564x1 ![0, 3] · slices_S24564x4_S24564x1_0_3) main_v10
  let main_v65 : FVec F S24564 .f32 := shapeCast S24564 main_v64 shapeCasts_S24564x1_S24564
  let main_v66 : FVec F S24564x1 .f32 := (extractStridedSlice S24564x1 ![0, 1] · slices_S24564x4_S24564x1_0_1) main_v10
  let main_v67 : FVec F S24564 .f32 := shapeCast S24564 main_v66 shapeCasts_S24564x1_S24564
  fn_part3 (F := F) main_arg0 main_arg1 main_arg2 main_arg3 main_arg4 main_arg5 main_arg6 main_arg7 main_v47 main_v58 main_v63 main_v65 main_v67

def fn_part1 {F : FTy → Type} [FloatOps F] (main_arg0 : FVec F S32x24564x4 .f32) (main_arg1 : FVec F S32x24564x21 .f32) (main_arg2 : FVec F S32x32x4 .f32) (main_arg3 : IVec S32x32 32) (main_arg4 : FVec F S24564x4 .f32) (main_arg5 : FVec F S_ .f32) (main_arg6 : FVec F S_ .f32) (main_arg7 : FVec F S_ .f32) (main_v10 : FVec F S24564x4 .f32) (main_v11 : FVec F S32x32x1x4 .f32) (main_v12 : FVec F S1x1x24564x4 .f32) (main_v19 : FVec F S32x32x24564 .f32) (main_v21 : FVec F S32x32x1 .f32) : IVec S_ 1 :=
  let main_v22 : FVec F S1x1x24564x1 .f32 := (extractStridedSlice S1x1x24564x1 ![0, 0, 0, 0] · slices_S1x1x24564x4_S1x1x24564x1_0_0_0_0) main_v12
  let main_v23 : FVec F S1x1x24564 .f32 := shapeCast S1x1x24564 main_v22 shapeCasts_S1x1x24564x1_S1x1x24564
  let main_v24 : FVec F S32x32x24564 .f32 := broadcastInDim S32x32x24564 ![0, 1, 2] bcast_S32x32x1_S32x32x24564_0_1_2 main_v21
  let main_v25 : FVec F S32x32x24564 .f32 := broadcastInDim S32x32x24564 ![0, 1, 2] bcast_S1x1x24564_S32x32x24564_0_1_2 main_v23
  let main_v26 : FVec F S32x32x24564 .f32 := maximumf main_v24 main_v25
  let main_v27 : FVec F S32x32x24564 .f32 := subf main_v19 main_v26
  let main_cst_1 : FVec F S_ .f32 := constant S_ .f32 0x00000000#32
  let main_v28 : FVec F S32x32x24564 .f32 := broadcastInDim S32x32x24564 ![] bcast_S_S32x32x24564 main_cst_1
  let main_v29 : FVec F S32x32x24564 .f32 := maximumf main_v27 main_v28
  let main_v30 : FVec F S32x32x1x1 .f32 := (extractStridedSlice S32x32x1x1 ![0, 0, 0, 3] · slices_S32x32x1x4_S32x32x1x1_0_0_0_3) main_v11
  let main_v31 : FVec F S32x32x1 .f32 := shapeCast S32x32x1 main_v30 shapeCasts_S32x32x1x1_S32x32x1
  let main_v32 : FVec F S1x1x24564x1 .f32 := (extractStridedSlice S1x1x24564x1 ![0, 0, 0, 3] · slices_S1x1x24564x4_S1x1x24564x1_0_0_0_3) main_v12
  let main_v33 : FVec F S1x1x24564 .f32 := shapeCast S1x1x24564 main_v32 shapeCasts_S1x1x24564x1_S1x1x24564
  let main_v34 : FVec F S32x32x24564 .f32 := broadcastInDim S32x32x24564 ![0, 1, 2] bcast_S32x32x1_S32x32x24564_0_1_2 main_v31
  let main_v35 : FVec F S32x32x24564 .f32 := broadcastInDim S32x32x24564 ![0, 1, 2] bcast_S1x1x24564_S32x32x24564_0_1_2 main_v33
  let main_v36 : FVec F S32x32x24564 .f32 := minimumf main_v34 main_v35
  let main_v37 : FVec F S32x32x1x1 .f32 := (extractStridedSlice S32x32x1x1 ![0, 0, 0, 1] · slices_S32x32x1x4_S32x32x1x1_0_0_0_1) main_v11
  let main_v38 : FVec F S32x32x1 .f32 := shapeCast S32x32x1 main_v37 shapeCasts_S32x32x1x1_S32x32x1
  let main_v39 : FVec F S1x1x24564x1 .f32 := (extractStridedSlice S1x1x24564x1 ![0, 0, 0, 1] · slices_S1x1x24564x4_S1x1x24564x1_0_0_0_1) main_v12
  let main_v40 : FVec F S1x1x24564 .f32 := shapeCast S1x1x24564 main_v39 shapeCasts_S1x1x24564x1_S1x1x24564
  let main_v41 : FVec F S32x32x24564 .f32 := broadcastInDim S32x32x24564 ![0, 1, 2] bcast_S32x32x1_S32x32x24564_0_1_2 main_v38
  let main_v42 : FVec F S32x32x24564 .f32 := broadcastInDim S32x32x24564 ![0, 1, 2] bcast_S1x1x24564_S32x32x24564_0_1_2 main_v40
  let main_v43 : FVec F S32x32x24564 .f32 := maximumf main_v41 main_v42
  let main_v44 : FVec F S32x32x24564 .f32 := subf main_v36 main_v43
  fn_part2 (F := F) main_arg0 main_arg1 main_arg2 main_arg3 main_arg4 main_arg5 main_arg6 main_arg7 main_v10 main_v29 main_v44

def fn {F : FTy → Type} [FloatOps F] (main_arg0 : FVec F S32x24564x4 .f32) (main_arg1 : FVec F S32x24564x21 .f32) (main_arg2 : FVec F S32x32x4 .f32) (main_arg3 : IVec S32x32 32) (main_arg4 : FVec F S24564x4 .f32) (main_arg5 : FVec F S_ .f32) (main_arg6 : FVec F S_ .f32) (main_arg7 : FVec F S_ .f32) : IVec S_ 1 :=
  let main_v0 : FVec F S24564x2 .f32 := (extractStridedSlice S24564x2 ![0, 0] · slices_S24564x4_S24564x2_0_0) main_arg4
  let main_v1 : FVec F S24564x2 .f32 := (extractStridedSlice S24564x2 ![0, 2] · slices_S24564x4_S24564x2_0_2) main_arg4
  let main_cst : FVec F S_ .f32 := constant S_ .f32 0x40000000#32
  let main_v2 : FVec F S24564x2 .f32 := broadcastInDim S24564x2 ![] bcast_S_S24564x2 main_cst
  let main_v3 : FVec F S24564x2 .f32 := Host.divf main_v1 main_v2
  let main_v4 : FVec F S24564x2 .f32 := subf main_v0 main_v3
  let main_v5 : FVec F S24564x2 .f32 := (extractStridedSlice S24564x2 ![0, 0] · slices_S24564x4_S24564x2_0_0) main_arg4
  let main_v6 : FVec F S24564x2 .f32 := (extractStridedSlice S24564x2 ![0, 2] · slices_S24564x4_S24564x2_0_2) main_arg4
  let main_cst_0 : FVec F S_ .f32 := constant S_ .f32 0x40000000#32
  let main_v7 : FVec F S24564x2 .f32 := broadcastInDim S24564x2 ![] bcast_S_S24564x2 main_cst_0
  let main_v8 : FVec F S24564x2 .f32 := Host.divf main_v6 main_v7
  let main_v9 : FVec F S24564x2 .f32 := addf main_v5 main_v8
  let main_v10 : FVec F S24564x4 .f32 := (fun a b => concatenate S24564x4 1 [⟨S24564x2, a⟩, ⟨S24564x2, b⟩] concatenates_S24564x2_S24564x2_S24564x4_d1) main_v4 main_v9
  let main_v11 : FVec F S32x32x1x4 .f32 := broadcastInDim S32x32x1x4 ![0, 1, 3] bcast_S32x32x4_S32x32x1x4_0_1_3 main_arg2
  let main_v12 : FVec F S1x1x24564x4 .f32 := broadcastInDim S1x1x24564x4 ![2, 3] bcast_S24564x4_S1x1x24564x4_2_3 main_v10
  let main_v13 : FVec F S32x32x1x1 .f32 := (extractStridedSlice S32x32x1x1 ![0, 0, 0, 2] · slices_S32x32x1x4_S32x32x1x1_0_0_0_2) main_v11
  let main_v14 : FVec F S32x32x1 .f32 := shapeCast S32x32x1 main_v13 shapeCasts_S32x32x1x1_S32x32x1
  let main_v15 : FVec F S1x1x24564x1 .f32 := (extractStridedSlice S1x1x24564x1 ![0, 0, 0, 2] · slices_S1x1x24564x4_S1x1x24564x1_0_0_0_2) main_v12
  let main_v16 : FVec F S1x1x24564 .f32 := shapeCast S1x1x24564 main_v15 shapeCasts_S1x1x24564x1_S1x1x24564
  let main_v17 : FVec F S32x32x24564 .f32 := broadcastInDim S32x32x24564 ![0, 1, 2] bcast_S32x32x1_S32x32x24564_0_1_2 main_v14
  let main_v18 : FVec F S32x32x24564 .f32 := broadcastInDim S32x32x24564 ![0, 1, 2] bcast_S1x1x24564_S32x32x24564_0_1_2 main_v16
  let main_v19 : FVec F S32x32x24564 .f32 := minimumf main_v17 main_v18
  let main_v20 : FVec F S32x32x1x1 .f32 := (extractStridedSlice S32x32x1x1 ![0, 0, 0, 0] · slices_S32x32x1x4_S32x32x1x1_0_0_0_0) main_v11
  let main_v21 : FVec F S32x32x1 .f32 := shapeCast S32x32x1 main_v20 shapeCasts_S32x32x1x1_S32x32x1
  fn_part1 (F := F) main_arg0 main_arg1 main_arg2 main_arg3 main_arg4 main_arg5 main_arg6 main_arg7 main_v10 main_v11 main_v12 main_v19 main_v21
-- ==== Pre_ordinary.lean ====
abbrev S32x24564x4 : Shape := ⟨3, ![32, 24564, 4]⟩
abbrev S32x24564x21 : Shape := ⟨3, ![32, 24564, 21]⟩
abbrev S32x32x4 : Shape := ⟨3, ![32, 32, 4]⟩
abbrev S32x32 : Shape := ⟨2, ![32, 32]⟩
abbrev S24564x4 : Shape := ⟨2, ![24564, 4]⟩
abbrev S_ : Shape := ⟨0, ![]⟩
abbrev S24564x2 : Shape := ⟨2, ![24564, 2]⟩

class Facts : Prop where
  bcast_S_S32x24564x21 : S_.BroadcastsInDim S32x24564x21 (![] : Fin 0 → Fin S32x24564x21.rank)
  reducesTo_S32x24564x21_S_d0_1_2 : S32x24564x21.ReducesTo [0, 1, 2] S_
  h_S_ : 0 < S_.numel
  slices_S24564x4_S24564x2_0_0 : S24564x4.Slices ![0, 0] S24564x2
  bcast_S_S24564x2 : S_.BroadcastsInDim S24564x2 (![] : Fin 0 → Fin S24564x2.rank)
  reducesTo_S24564x2_S_d0_1 : S24564x2.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S32x24564x4 .f32) (main_arg1 : FVec F S32x24564x21 .f32) (main_arg2 : FVec F S32x32x4 .f32) (main_arg3 : IVec S32x32 32) (main_arg4 : FVec F S24564x4 .f32) : IVec S_ 1 :=
  let main_v0 : FVec F S32x24564x21 .f32 := Host.absf main_arg1
  let main_cst : FVec F S_ .f32 := constant S_ .f32 0x7F800000#32
  let main_v1 : FVec F S32x24564x21 .f32 := broadcastInDim S32x24564x21 ![] bcast_S_S32x24564x21 main_cst
  let main_v2 : IVec S32x24564x21 1 := cmpf .olt main_v0 main_v1
  let main_c : IVec S_ 1 := constantI S_ 1 1#1
  let main_v3 : IVec S_ 1 := (fun x v => Host.reduce IntOp.andi x v reducesTo_S32x24564x21_S_d0_1_2 h_S_) main_v2 main_c
  let main_v4 : FVec F S24564x2 .f32 := (extractStridedSlice S24564x2 ![0, 0] · slices_S24564x4_S24564x2_0_0) main_arg4
  let main_v5 : FVec F S24564x2 .f32 := Host.absf main_v4
  let main_cst_0 : FVec F S_ .f32 := constant S_ .f32 0x7F800000#32
  let main_v6 : FVec F S24564x2 .f32 := broadcastInDim S24564x2 ![] bcast_S_S24564x2 main_cst_0
  let main_v7 : IVec S24564x2 1 := cmpf .olt main_v5 main_v6
  let main_c_1 : IVec S_ 1 := constantI S_ 1 1#1
  let main_v8 : IVec S_ 1 := (fun x v => Host.reduce IntOp.andi x v reducesTo_S24564x2_S_d0_1 h_S_) main_v7 main_c_1
  let main_c_2 : IVec S_ 32 := constantI S_ 32 0#32
  let main_v9 : IVec S32x32 32 := broadcastInDim S32x32 ![] bcast_S_S32x32 main_c_2
  let main_v10 : IVec S32x32 1 := cmpi .sge main_arg3 main_v9
  let main_c_3 : IVec S_ 32 := constantI S_ 32 20#32
  let main_v11 : IVec S32x32 32 := broadcastInDim S32x32 ![] bcast_S_S32x32 main_c_3
  let main_v12 : IVec S32x32 1 := cmpi .slt main_arg3 main_v11
  let main_v13 : IVec S32x32 1 := andi main_v10 main_v12
  let main_c_4 : IVec S_ 1 := constantI S_ 1 1#1
  let main_v14 : IVec S_ 1 := (fun x v => Host.reduce IntOp.andi x v reducesTo_S32x32_S_d0_1 h_S_) main_v13 main_c_4
  let main_v15 : IVec S_ 1 := andi main_v3 main_v8
  let main_v16 : IVec S_ 1 := andi main_v15 main_v14
  main_v16
-- ==== Kernel.lean ====
abbrev S32x24564x4 : Shape := ⟨3, ![32, 24564, 4]⟩
abbrev S32x24564x21 : Shape := ⟨3, ![32, 24564, 21]⟩
abbrev S32x32x4 : Shape := ⟨3, ![32, 32, 4]⟩
abbrev S32x32 : Shape := ⟨2, ![32, 32]⟩
abbrev S24564x4 : Shape := ⟨2, ![24564, 4]⟩
abbrev S32x4x24564 : Shape := ⟨3, ![32, 4, 24564]⟩
abbrev S32x21x24564 : Shape := ⟨3, ![32, 21, 24564]⟩
abbrev S32x1x32 : Shape := ⟨3, ![32, 1, 32]⟩
abbrev S4x24564 : Shape := ⟨2, ![4, 24564]⟩
abbrev S32x1x1 : Shape := ⟨3, ![32, 1, 1]⟩
abbrev S4x4x24564 : Shape := ⟨3, ![4, 4, 24564]⟩
abbrev S4x21x24564 : Shape := ⟨3, ![4, 21, 24564]⟩
abbrev S4x32x4 : Shape := ⟨3, ![4, 32, 4]⟩
abbrev S4x1x32 : Shape := ⟨3, ![4, 1, 32]⟩
abbrev S4x1x1 : Shape := ⟨3, ![4, 1, 1]⟩
abbrev S1x24564 : Shape := ⟨2, ![1, 24564]⟩
abbrev S1x1x24564 : Shape := ⟨3, ![1, 1, 24564]⟩
abbrev S4x32x1 : Shape := ⟨3, ![4, 32, 1]⟩
abbrev S4x32x24564 : Shape := ⟨3, ![4, 32, 24564]⟩
abbrev S4x1x24564 : Shape := ⟨3, ![4, 1, 24564]⟩
abbrev S4x32 : Shape := ⟨2, ![4, 32]⟩
abbrev S4x2x24564 : Shape := ⟨3, ![4, 2, 24564]⟩
abbrev S2x24564 : Shape := ⟨2, ![2, 24564]⟩
abbrev S1x2x24564 : Shape := ⟨3, ![1, 2, 24564]⟩
abbrev S4x2 : Shape := ⟨2, ![4, 2]⟩
abbrev S4x2x1 : Shape := ⟨3, ![4, 2, 1]⟩
abbrev S4x1 : Shape := ⟨2, ![4, 1]⟩
abbrev S4x1x12 : Shape := ⟨3, ![4, 1, 12]⟩
abbrev S4x1x24576 : Shape := ⟨3, ![4, 1, 24576]⟩
abbrev S4x192x128 : Shape := ⟨3, ![4, 192, 128]⟩
abbrev S4x192 : Shape := ⟨2, ![4, 192]⟩
abbrev S4x192x1 : Shape := ⟨3, ![4, 192, 1]⟩
abbrev S_ : Shape := ⟨0, ![]⟩

abbrev nBuf : Space → Nat
  | .hbm => 28
  | .vmem => 17
  | .smem => 0
  | _ => 0

abbrev bufTy : (tb : Table) → Fin (tcTables nBuf tb) → BufTy
  | .hbm, ⟨0, _⟩ => ⟨S32x24564x4, .f32⟩
  | .hbm, ⟨1, _⟩ => ⟨S32x24564x21, .f32⟩
  | .hbm, ⟨2, _⟩ => ⟨S32x32x4, .f32⟩
  | .hbm, ⟨3, _⟩ => ⟨S32x32, .i32⟩
  | .hbm, ⟨4, _⟩ => ⟨S24564x4, .f32⟩
  | .hbm, ⟨5, _⟩ => ⟨S32x4x24564, .f32⟩
  | .hbm, ⟨6, _⟩ => ⟨S32x21x24564, .f32⟩
  | .hbm, ⟨7, _⟩ => ⟨S32x32, .f32⟩
  | .hbm, ⟨8, _⟩ => ⟨S32x1x32, .f32⟩
  | .hbm, ⟨9, _⟩ => ⟨S4x24564, .f32⟩
  | .hbm, ⟨10, _⟩ => ⟨S32x1x1, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4x4x24564, .f32⟩
  | .local _ .vmem, ⟨1, _⟩ => ⟨S4x4x24564, .f32⟩
  | .local _ .vmem, ⟨2, _⟩ => ⟨S4x21x24564, .f32⟩
  | .local _ .vmem, ⟨3, _⟩ => ⟨S4x21x24564, .f32⟩
  | .local _ .vmem, ⟨4, _⟩ => ⟨S4x32x4, .f32⟩
  | .local _ .vmem, ⟨5, _⟩ => ⟨S4x32x4, .f32⟩
  | .local _ .vmem, ⟨6, _⟩ => ⟨S4x1x32, .f32⟩
  | .local _ .vmem, ⟨7, _⟩ => ⟨S4x1x32, .f32⟩
  | .local _ .vmem, ⟨8, _⟩ => ⟨S4x24564, .f32⟩
  | .local _ .vmem, ⟨9, _⟩ => ⟨S4x1x1, .f32⟩
  | .local _ .vmem, ⟨10, _⟩ => ⟨S4x1x1, .f32⟩
  | .local _ .vmem, ⟨11, _⟩ => ⟨S4x1x1, .f32⟩
  | .local _ .vmem, ⟨12, _⟩ => ⟨S4x1x1, .f32⟩
  | .local _ .vmem, ⟨13, _⟩ => ⟨S4x1x1, .f32⟩
  | .local _ .vmem, ⟨14, _⟩ => ⟨S4x1x1, .f32⟩
  | .local _ .vmem, ⟨15, _⟩ => ⟨S4x1x1, .f32⟩
  | .local _ .vmem, ⟨16, _⟩ => ⟨S4x1x1, .f32⟩
  | _, _ => ⟨S32x24564x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c42_i32 : BitVec 32 := 42#32
  let v203 : BitVec 32 := Scalar.addi c0_i32 c42_i32
  let c1_i32 : BitVec 32 := 1#32
  ⟨c0_i32, v203, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x24564 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x21x24564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x24564 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x24564x4 : Shape := ⟨3, ![32, 24564, 4]⟩
abbrev S32x24564x21 : Shape := ⟨3, ![32, 24564, 21]⟩
abbrev S32x32x4 : Shape := ⟨3, ![32, 32, 4]⟩
abbrev S32x32 : Shape := ⟨2, ![32, 32]⟩
abbrev S24564x4 : Shape := ⟨2, ![24564, 4]⟩
abbrev S24564x2 : Shape := ⟨2, ![24564, 2]⟩
abbrev S_ : Shape := ⟨0, ![]⟩
abbrev S32x32x1x4 : Shape := ⟨4, ![32, 32, 1, 4]⟩
abbrev S1x1x24564x4 : Shape := ⟨4, ![1, 1, 24564, 4]⟩
abbrev S32x32x1x1 : Shape := ⟨4, ![32, 32, 1, 1]⟩
abbrev S32x32x1 : Shape := ⟨3, ![32, 32, 1]⟩
abbrev S1x1x24564x1 : Shape := ⟨4, ![1, 1, 24564, 1]⟩
abbrev S1x1x24564 : Shape := ⟨3, ![1, 1, 24564]⟩
abbrev S32x32x24564 : Shape := ⟨3, ![32, 32, 24564]⟩
abbrev S24564x1 : Shape := ⟨2, ![24564, 1]⟩
abbrev S24564 : Shape := ⟨1, ![24564]⟩
abbrev S32x24564 : Shape := ⟨2, ![32, 24564]⟩
abbrev S32x24564x32 : Shape := ⟨3, ![32, 24564, 32]⟩
abbrev S32x24564x1 : Shape := ⟨3, ![32, 24564, 1]⟩
abbrev S32x1x24564 : Shape := ⟨3, ![32, 1, 24564]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩
abbrev S32x24564x2 : Shape := ⟨3, ![32, 24564, 2]⟩
abbrev S1x24564x2 : Shape := ⟨3, ![1, 24564, 2]⟩
abbrev S32x24564x1x1 : Shape := ⟨4, ![32, 24564, 1, 1]⟩
abbrev S1x1x1x1 : Shape := ⟨4, ![1, 1, 1, 1]⟩
abbrev S32x1 : Shape := ⟨2, ![32, 1]⟩

abbrev nBuf : Space → Nat
  | .hbm => 343
  | .vmem => 0
  | .smem => 0
  | _ => 0

abbrev hbmTy0_0 (i : Nat) : BufTy := match i % 128 with
  | 0 => ⟨S32x24564x4, .f32⟩
  | 1 => ⟨S32x24564x21, .f32⟩
  | 2 => ⟨S32x32x4, .f32⟩
  | 3 => ⟨S32x32, .i32⟩
  | 4 => ⟨S24564x4, .f32⟩
  | 5 => ⟨S24564x2, .f32⟩
  | 6 => ⟨S24564x2, .f32⟩
  | 7 => ⟨S_, .f32⟩
  | 8 => ⟨S24564x2, .f32⟩
  | 9 => ⟨S24564x2, .f32⟩
  | 10 => ⟨S24564x2, .f32⟩
  | 11 => ⟨S24564x2, .f32⟩
  | 12 => ⟨S24564x2, .f32⟩
  | 13 => ⟨S_, .f32⟩
  | 14 => ⟨S24564x2, .f32⟩
  | 15 => ⟨S24564x2, .f32⟩
  | 16 => ⟨S24564x2, .f32⟩
  | 17 => ⟨S24564x4, .f32⟩
  | 18 => ⟨S32x32x1x4, .f32⟩
  | 19 => ⟨S1x1x24564x4, .f32⟩
  | 20 => ⟨S32x32x1x1, .f32⟩
  | 21 => ⟨S32x32x1, .f32⟩
  | 22 => ⟨S1x1x24564x1, .f32⟩
  | 23 => ⟨S1x1x24564, .f32⟩
  | 24 => ⟨S32x32x24564, .f32⟩
  | 25 => ⟨S32x32x24564, .f32⟩
  | 26 => ⟨S32x32x24564, .f32⟩
  | 27 => ⟨S32x32x1x1, .f32⟩
  | 28 => ⟨S32x32x1, .f32⟩
  | 29 => ⟨S1x1x24564x1, .f32⟩
  | 30 => ⟨S1x1x24564, .f32⟩
  | 31 => ⟨S32x32x24564, .f32⟩
  | 32 => ⟨S32x32x24564, .f32⟩
  | 33 => ⟨S32x32x24564, .f32⟩
  | 34 => ⟨S32x32x24564, .f32⟩
  | 35 => ⟨S_, .f32⟩
  | 36 => ⟨S32x32x24564, .f32⟩
  | 37 => ⟨S32x32x24564, .f32⟩
  | 38 => ⟨S32x32x1x1, .f32⟩
  | 39 => ⟨S32x32x1, .f32⟩
  | 40 => ⟨S1x1x24564x1, .f32⟩
  | 41 => ⟨S1x1x24564, .f32⟩
  | 42 => ⟨S32x32x24564, .f32⟩
  | 43 => ⟨S32x32x24564, .f32⟩
  | 44 => ⟨S32x32x24564, .f32⟩
  | 45 => ⟨S32x32x1x1, .f32⟩
  | 46 => ⟨S32x32x1, .f32⟩
  | 47 => ⟨S1x1x24564x1, .f32⟩
  | 48 => ⟨S1x1x24564, .f32⟩
  | 49 => ⟨S32x32x24564, .f32⟩
  | 50 => ⟨S32x32x24564, .f32⟩
  | 51 => ⟨S32x32x24564, .f32⟩
  | 52 => ⟨S32x32x24564, .f32⟩
  | 53 => ⟨S_, .f32⟩
  | 54 => ⟨S32x32x24564, .f32⟩
  | 55 => ⟨S32x32x24564, .f32⟩
  | 56 => ⟨S32x32x24564, .f32⟩
  | 57 => ⟨S32x32x1, .f32⟩
  | 58 => ⟨S32x32, .f32⟩
  | 59 => ⟨S32x32x1, .f32⟩
  | 60 => ⟨S32x32, .f32⟩
  | 61 => ⟨S32x32, .f32⟩
  | 62 => ⟨S32x32x1, .f32⟩
  | 63 => ⟨S32x32, .f32⟩
  | 64 => ⟨S32x32x1, .f32⟩
  | 65 => ⟨S32x32, .f32⟩
  | 66 => ⟨S32x32, .f32⟩
  | 67 => ⟨S32x32, .f32⟩
  | 68 => ⟨S24564x1, .f32⟩
  | 69 => ⟨S24564, .f32⟩
  | 70 => ⟨S24564x1, .f32⟩
  | 71 => ⟨S24564, .f32⟩
  | 72 => ⟨S24564, .f32⟩
  | 73 => ⟨S24564x1, .f32⟩
  | 74 => ⟨S24564, .f32⟩
  | 75 => ⟨S24564x1, .f32⟩
  | 76 => ⟨S24564, .f32⟩
  | 77 => ⟨S24564, .f32⟩
  | 78 => ⟨S24564, .f32⟩
  | 79 => ⟨S32x32x1, .f32⟩
  | 80 => ⟨S1x1x24564, .f32⟩
  | 81 => ⟨S32x32x24564, .f32⟩
  | 82 => ⟨S32x32x24564, .f32⟩
  | 83 => ⟨S32x32x24564, .f32⟩
  | 84 => ⟨S32x32x24564, .f32⟩
  | 85 => ⟨S_, .f32⟩
  | 86 => ⟨S32x32x24564, .f32⟩
  | 87 => ⟨S32x32x24564, .f32⟩
  | 88 => ⟨S32x32x24564, .f32⟩
  | 89 => ⟨S_, .f32⟩
  | 90 => ⟨S32x32, .f32⟩
  | 91 => ⟨S32x32x1, .f32⟩
  | 92 => ⟨S32x32x1, .i32⟩
  | 93 => ⟨S32x32, .i32⟩
  | 94 => ⟨S_, .f32⟩
  | 95 => ⟨S32x24564, .f32⟩
  | 96 => ⟨S32x24564x32, .f32⟩
  | 97 => ⟨S32x24564x1, .f32⟩
  | 98 => ⟨S32x24564x1, .i32⟩
  | 99 => ⟨S32x24564, .i32⟩
  | 100 => ⟨S_, .f32⟩
  | 101 => ⟨S32x24564, .f32⟩
  | 102 => ⟨S32x24564, .i1⟩
  | 103 => ⟨S24564, .i32⟩
  | 104 => ⟨S1x1x24564, .i32⟩
  | 105 => ⟨S32x32x1, .i32⟩
  | 106 => ⟨S32x32x24564, .i32⟩
  | 107 => ⟨S32x32x24564, .i32⟩
  | 108 => ⟨S32x32x24564, .i1⟩
  | 109 => ⟨S32x32x1, .f32⟩
  | 110 => ⟨S_, .f32⟩
  | 111 => ⟨S32x32x1, .f32⟩
  | 112 => ⟨S32x32x1, .i1⟩
  | 113 => ⟨S32x32x24564, .i1⟩
  | 114 => ⟨S32x32x24564, .i1⟩
  | 115 => ⟨S_, .i1⟩
  | 116 => ⟨S32x24564, .i1⟩
  | 117 => ⟨S32x24564, .i1⟩
  | 118 => ⟨S32x1x24564, .f32⟩
  | 119 => ⟨S32x32x1, .f32⟩
  | 120 => ⟨S32x32x24564, .f32⟩
  | 121 => ⟨S32x32x24564, .f32⟩
  | 122 => ⟨S32x32x24564, .i1⟩
  | 123 => ⟨S32x32x24564, .i1⟩
  | 124 => ⟨S32, .i32⟩
  | 125 => ⟨S1x32x1, .i32⟩
  | 126 => ⟨S_, .i32⟩
  | 127 => ⟨S_, .i32⟩
  | _ => ⟨S32x24564x4, .f32⟩

abbrev hbmTy0_1 (i : Nat) : BufTy := match i % 128 with
  | 0 => ⟨S32x32x24564, .i32⟩
  | 1 => ⟨S32x32x24564, .i32⟩
  | 2 => ⟨S32x32x24564, .i32⟩
  | 3 => ⟨S_, .i32⟩
  | 4 => ⟨S32x24564, .i32⟩
  | 5 => ⟨S_, .i32⟩
  | 6 => ⟨S32x24564, .i32⟩
  | 7 => ⟨S32x24564, .i1⟩
  | 8 => ⟨S32x24564, .i32⟩
  | 9 => ⟨S32x24564x1, .i32⟩
  | 10 => ⟨S_, .i32⟩
  | 11 => ⟨S32x24564x1, .i32⟩
  | 12 => ⟨S32x24564x1, .i1⟩
  | 13 => ⟨S_, .i32⟩
  | 14 => ⟨S32x24564x1, .i32⟩
  | 15 => ⟨S32x24564x1, .i32⟩
  | 16 => ⟨S32x24564x1, .i32⟩
  | 17 => ⟨S1, .i32⟩
  | 18 => ⟨S_, .i32⟩
  | 19 => ⟨S32x24564x1, .i32⟩
  | 20 => ⟨S32x24564x1, .i1⟩
  | 21 => ⟨S1x1x1, .i32⟩
  | 22 => ⟨S32x24564x1, .i32⟩
  | 23 => ⟨S32x24564x1, .i1⟩
  | 24 => ⟨S32x24564x1, .i1⟩
  | 25 => ⟨S_, .i1⟩
  | 26 => ⟨S32x24564, .i1⟩
  | 27 => ⟨S32x24564x4, .f32⟩
  | 28 => ⟨S32x24564x4, .i1⟩
  | 29 => ⟨S_, .f32⟩
  | 30 => ⟨S32x24564x4, .f32⟩
  | 31 => ⟨S32x24564x4, .f32⟩
  | 32 => ⟨S_, .i32⟩
  | 33 => ⟨S32x24564, .i32⟩
  | 34 => ⟨S32x24564, .i1⟩
  | 35 => ⟨S_, .i32⟩
  | 36 => ⟨S32x24564, .i32⟩
  | 37 => ⟨S32x24564, .i32⟩
  | 38 => ⟨S32x24564, .i32⟩
  | 39 => ⟨S32x24564x1, .i32⟩
  | 40 => ⟨S1, .i32⟩
  | 41 => ⟨S_, .i32⟩
  | 42 => ⟨S32x24564x1, .i32⟩
  | 43 => ⟨S32x24564x1, .i1⟩
  | 44 => ⟨S1x1x1, .i32⟩
  | 45 => ⟨S32x24564x1, .i32⟩
  | 46 => ⟨S32x24564x1, .i1⟩
  | 47 => ⟨S32x24564x1, .i1⟩
  | 48 => ⟨S_, .i1⟩
  | 49 => ⟨S32x24564, .i1⟩
  | 50 => ⟨S32x24564, .i32⟩
  | 51 => ⟨S_, .i32⟩
  | 52 => ⟨S32x24564, .i32⟩
  | 53 => ⟨S32x24564, .i32⟩
  | 54 => ⟨S_, .i32⟩
  | 55 => ⟨S32x24564, .i32⟩
  | 56 => ⟨S32x24564, .i32⟩
  | 57 => ⟨S32x24564x2, .f32⟩
  | 58 => ⟨S32x24564x2, .f32⟩
  | 59 => ⟨S32x24564x2, .f32⟩
  | 60 => ⟨S_, .f32⟩
  | 61 => ⟨S32x24564x2, .f32⟩
  | 62 => ⟨S32x24564x2, .f32⟩
  | 63 => ⟨S32x24564x2, .f32⟩
  | 64 => ⟨S32x24564x2, .f32⟩
  | 65 => ⟨S32x24564x2, .f32⟩
  | 66 => ⟨S24564x2, .f32⟩
  | 67 => ⟨S1x24564x2, .f32⟩
  | 68 => ⟨S32x24564x2, .f32⟩
  | 69 => ⟨S32x24564x2, .f32⟩
  | 70 => ⟨S24564x2, .f32⟩
  | 71 => ⟨S1x24564x2, .f32⟩
  | 72 => ⟨S32x24564x2, .f32⟩
  | 73 => ⟨S32x24564x2, .f32⟩
  | 74 => ⟨S24564x2, .f32⟩
  | 75 => ⟨S1x24564x2, .f32⟩
  | 76 => ⟨S32x24564x2, .f32⟩
  | 77 => ⟨S32x24564x2, .f32⟩
  | 78 => ⟨S_, .f32⟩
  | 79 => ⟨S32x24564x2, .f32⟩
  | 80 => ⟨S32x24564x2, .f32⟩
  | 81 => ⟨S32x24564x2, .f32⟩
  | 82 => ⟨S32x24564, .f32⟩
  | 83 => ⟨S32x24564x4, .f32⟩
  | 84 => ⟨S32x24564x1, .f32⟩
  | 85 => ⟨S32x24564x4, .f32⟩
  | 86 => ⟨S32x24564x4, .f32⟩
  | 87 => ⟨S_, .i32⟩
  | 88 => ⟨S_, .i32⟩
  | 89 => ⟨S32x24564, .i32⟩
  | 90 => ⟨S32x24564, .i32⟩
  | 91 => ⟨S32x24564x4, .f32⟩
  | 92 => ⟨S32x24564x4, .f32⟩
  | 93 => ⟨S_, .f32⟩
  | 94 => ⟨S32x24564x4, .f32⟩
  | 95 => ⟨S32x24564x4, .i1⟩
  | 96 => ⟨S_, .f32⟩
  | 97 => ⟨S32x24564x4, .f32⟩
  | 98 => ⟨S32x24564x4, .f32⟩
  | 99 => ⟨S32x24564x4, .f32⟩
  | 100 => ⟨S_, .f32⟩
  | 101 => ⟨S32x24564x4, .f32⟩
  | 102 => ⟨S32x24564x4, .f32⟩
  | 103 => ⟨S32x24564x4, .f32⟩
  | 104 => ⟨S32x24564x1, .f32⟩
  | 105 => ⟨S32x24564x4, .f32⟩
  | 106 => ⟨S32x24564x4, .f32⟩
  | 107 => ⟨S_, .f32⟩
  | 108 => ⟨S_, .f32⟩
  | 109 => ⟨S_, .f32⟩
  | 110 => ⟨S32x24564, .f32⟩
  | 111 => ⟨S_, .f32⟩
  | 112 => ⟨S32x24564, .f32⟩
  | 113 => ⟨S32x24564, .f32⟩
  | 114 => ⟨S32x24564x1, .f32⟩
  | 115 => ⟨S32x24564x21, .f32⟩
  | 116 => ⟨S32x24564x21, .f32⟩
  | 117 => ⟨S32x24564x21, .f32⟩
  | 118 => ⟨S_, .f32⟩
  | 119 => ⟨S32x24564, .f32⟩
  | 120 => ⟨S32x24564x1, .f32⟩
  | 121 => ⟨S32x24564x1, .f32⟩
  | 122 => ⟨S32x24564x21, .f32⟩
  | 123 => ⟨S32x24564x21, .f32⟩
  | 124 => ⟨S32x24564x1, .i32⟩
  | 125 => ⟨S_, .i32⟩
  | 126 => ⟨S32x24564x1, .i32⟩
  | 127 => ⟨S32x24564x1, .i1⟩
  | _ => ⟨S32x24564x4, .f32⟩

abbrev hbmTy0_2 (i : Nat) : BufTy := match i % 128 with
  | 0 => ⟨S_, .i32⟩
  | 1 => ⟨S32x24564x1, .i32⟩
  | 2 => ⟨S32x24564x1, .i32⟩
  | 3 => ⟨S32x24564x1, .i32⟩
  | 4 => ⟨S32x24564x1x1, .i32⟩
  | 5 => ⟨S1, .i32⟩
  | 6 => ⟨S_, .i32⟩
  | 7 => ⟨S32x24564x1x1, .i32⟩
  | 8 => ⟨S32x24564x1x1, .i1⟩
  | 9 => ⟨S1x1x1x1, .i32⟩
  | 10 => ⟨S32x24564x1x1, .i32⟩
  | 11 => ⟨S32x24564x1x1, .i1⟩
  | 12 => ⟨S32x24564x1x1, .i1⟩
  | 13 => ⟨S_, .i1⟩
  | 14 => ⟨S32x24564x1, .i1⟩
  | 15 => ⟨S32x24564x1, .f32⟩
  | 16 => ⟨S_, .f32⟩
  | 17 => ⟨S32x24564x1, .f32⟩
  | 18 => ⟨S32x24564x1, .f32⟩
  | 19 => ⟨S32x24564, .f32⟩
  | 20 => ⟨S32x24564, .f32⟩
  | 21 => ⟨S32x24564, .f32⟩
  | 22 => ⟨S_, .f32⟩
  | 23 => ⟨S_, .f32⟩
  | 24 => ⟨S_, .f32⟩
  | 25 => ⟨S_, .f32⟩
  | 26 => ⟨S32x24564, .f32⟩
  | 27 => ⟨S32x24564, .f32⟩
  | 28 => ⟨S32x24564, .i32⟩
  | 29 => ⟨S_, .i32⟩
  | 30 => ⟨S32, .i32⟩
  | 31 => ⟨S_, .i32⟩
  | 32 => ⟨S32, .i32⟩
  | 33 => ⟨S32, .i32⟩
  | 34 => ⟨S_, .i32⟩
  | 35 => ⟨S32, .i32⟩
  | 36 => ⟨S32, .i32⟩
  | 37 => ⟨S32, .i32⟩
  | 38 => ⟨S_, .i32⟩
  | 39 => ⟨S32, .i32⟩
  | 40 => ⟨S32, .i32⟩
  | 41 => ⟨S32x24564, .f32⟩
  | 42 => ⟨S32x24564, .i32⟩
  | 43 => ⟨S32x24564, .f32⟩
  | 44 => ⟨S32x24564, .i32⟩
  | 45 => ⟨S32x24564, .i32⟩
  | 46 => ⟨S32x24564, .i32⟩
  | 47 => ⟨S32x24564, .i32⟩
  | 48 => ⟨S32x1, .i32⟩
  | 49 => ⟨S32x24564, .i32⟩
  | 50 => ⟨S32x24564, .i1⟩
  | 51 => ⟨S_, .f32⟩
  | 52 => ⟨S_, .f32⟩
  | 53 => ⟨S32x24564, .f32⟩
  | 54 => ⟨S32x24564, .f32⟩
  | 55 => ⟨S_, .f32⟩
  | 56 => ⟨S32, .f32⟩
  | 57 => ⟨S32x1, .f32⟩
  | 58 => ⟨S_, .f32⟩
  | 59 => ⟨S32, .f32⟩
  | 60 => ⟨S32x1, .f32⟩
  | 61 => ⟨S_, .f32⟩
  | 62 => ⟨S32x1, .f32⟩
  | 63 => ⟨S32x1, .f32⟩
  | 64 => ⟨S_, .f32⟩
  | 65 => ⟨S32x1, .f32⟩
  | 66 => ⟨S32x1, .f32⟩
  | 67 => ⟨S32x1, .f32⟩
  | 68 => ⟨S32x1, .f32⟩
  | 69 => ⟨S32x1, .f32⟩
  | 70 => ⟨S32x24564, .f32⟩
  | 71 => ⟨S32x24564, .f32⟩
  | 72 => ⟨S_, .f32⟩
  | 73 => ⟨S_, .f32⟩
  | 74 => ⟨S32x24564, .f32⟩
  | 75 => ⟨S32x24564, .f32⟩
  | 76 => ⟨S_, .f32⟩
  | 77 => ⟨S_, .f32⟩
  | 78 => ⟨S_, .i32⟩
  | 79 => ⟨S_, .i32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | _ => ⟨S32x24564x4, .f32⟩

abbrev hbmTy (i : Nat) : BufTy := match i / 128 with
  | 0 => hbmTy0_0 i
  | 1 => hbmTy0_1 i
  | 2 => hbmTy0_2 i
  | _ => ⟨S32x24564x4, .f32⟩

abbrev bufTy : (tb : Table) → Fin (tcTables nBuf tb) → BufTy
  | .hbm, ⟨i, _⟩ => hbmTy i
  | _, _ => ⟨S32x24564x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_cst_3 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_4 : Ref sig .tc := ⟨.hbm, 89, rfl⟩
abbrev main_v79 : Ref sig .tc := ⟨.hbm, 90, rfl⟩
abbrev main_values : Ref sig .tc := ⟨.hbm, 91, rfl⟩
abbrev main_indices : Ref sig .tc := ⟨.hbm, 92, rfl⟩
abbrev main_v80 : Ref sig .tc := ⟨.hbm, 93, rfl⟩
abbrev main_cst_5 : Ref sig .tc := ⟨.hbm, 94, rfl⟩
abbrev main_v81 : Ref sig .tc := ⟨.hbm, 95, rfl⟩
abbrev main_v82 : Ref sig .tc := ⟨.hbm, 96, rfl⟩
abbrev main_values_6 : Ref sig .tc := ⟨.hbm, 97, rfl⟩
abbrev main_indices_7 : Ref sig .tc := ⟨.hbm, 98, rfl⟩
abbrev main_v83 : Ref sig .tc := ⟨.hbm, 99, rfl⟩
abbrev main_cst_8 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_9 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_c : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_c_10 : Ref sig .tc := ⟨.hbm, 126, rfl⟩
abbrev main_call0_v0 : Ref sig .tc := ⟨.hbm, 127, rfl⟩
abbrev main_call0_v1 : Ref sig .tc := ⟨.hbm, 128, rfl⟩
abbrev main_call0_v2 : Ref sig .tc := ⟨.hbm, 129, rfl⟩
abbrev main_v107 : Ref sig .tc := ⟨.hbm, 130, rfl⟩
abbrev main_c_11 : Ref sig .tc := ⟨.hbm, 131, rfl⟩
abbrev main_v108 : Ref sig .tc := ⟨.hbm, 132, rfl⟩
abbrev main_c_12 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_call2_c : Ref sig .tc := ⟨.hbm, 138, rfl⟩
abbrev main_call2_v0 : Ref sig .tc := ⟨.hbm, 139, rfl⟩
abbrev main_call2_v1 : Ref sig .tc := ⟨.hbm, 140, rfl⟩
abbrev main_call2_c_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_c_1 : Ref sig .tc := ⟨.hbm, 145, rfl⟩
abbrev main_call2_c_2 : Ref sig .tc := ⟨.hbm, 146, rfl⟩
abbrev main_call2_v5 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_c_3 : Ref sig .tc := ⟨.hbm, 153, rfl⟩
abbrev main_call2_v11 : Ref sig .tc := ⟨.hbm, 154, rfl⟩
abbrev main_call2_v12 : Ref sig .tc := ⟨.hbm, 155, rfl⟩
abbrev main_call2_v13 : Ref sig .tc := ⟨.hbm, 156, rfl⟩
abbrev main_call2_cst : Ref sig .tc := ⟨.hbm, 157, rfl⟩
abbrev main_call2_v14 : Ref sig .tc := ⟨.hbm, 158, rfl⟩
abbrev main_v113 : Ref sig .tc := ⟨.hbm, 159, rfl⟩
abbrev main_call3_c : Ref sig .tc := ⟨.hbm, 160, rfl⟩
abbrev main_call3_v0 : Ref sig .tc := ⟨.hbm, 161, rfl⟩
abbrev main_call3_v1 : Ref sig .tc := ⟨.hbm, 162, rfl⟩
abbrev main_call3_c_0 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_call3_v5 : Ref sig .tc := ⟨.hbm, 167, rfl⟩
abbrev main_call3_c_1 : Ref sig .tc := ⟨.hbm, 168, rfl⟩
abbrev main_call3_c_2 : Ref sig .tc := ⟨.hbm, 169, rfl⟩
abbrev main_call3_v6 : Ref sig .tc := ⟨.hbm, 170, rfl⟩
abbrev main_call3_v7 : Ref sig .tc := ⟨.hbm, 171, rfl⟩
abbrev main_call3_v8 : Ref sig .tc := ⟨.hbm, 172, rfl⟩
abbrev main_call3_v9 : Ref sig .tc := ⟨.hbm, 173, rfl⟩
abbrev main_call3_v10 : Ref sig .tc := ⟨.hbm, 174, rfl⟩
abbrev main_call3_v11 : Ref sig .tc := ⟨.hbm, 175, rfl⟩
abbrev main_call3_c_3 : Ref sig .tc := ⟨.hbm, 176, rfl⟩
abbrev main_call3_v12 : Ref sig .tc := ⟨.hbm, 177, rfl⟩
abbrev main_call3_v13 : Ref sig .tc := ⟨.hbm, 178, rfl⟩
abbrev main_call3_c_4 : Ref sig .tc := ⟨.hbm, 179, rfl⟩
abbrev main_call3_v14 : Ref sig .tc := ⟨.hbm, 180, rfl⟩
abbrev main_v114 : Ref sig .tc := ⟨.hbm, 181, rfl⟩
abbrev main_c_13 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_14 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_cst_15 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_c_16 : Ref sig .tc := ⟨.hbm, 215, rfl⟩
abbrev main_call4_v0 : Ref sig .tc := ⟨.hbm, 216, rfl⟩
abbrev main_call4_v1 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_cst_17 : Ref sig .tc := ⟨.hbm, 221, rfl⟩
abbrev main_v148 : Ref sig .tc := ⟨.hbm, 222, rfl⟩
abbrev main_v149 : Ref sig .tc := ⟨.hbm, 223, rfl⟩
abbrev main_cst_18 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_cst_19 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_cst_20 : Ref sig .tc := ⟨.hbm, 235, rfl⟩
abbrev main_v159 : Ref sig .tc := ⟨.hbm, 236, rfl⟩
abbrev main_call6_cst : Ref sig .tc := ⟨.hbm, 237, rfl⟩
abbrev main_call6_v0 : Ref sig .tc := ⟨.hbm, 238, rfl⟩
abbrev main_call6_cst_0 : Ref sig .tc := ⟨.hbm, 239, rfl⟩
abbrev main_call6_v1 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_cst_1 : Ref sig .tc := ⟨.hbm, 246, rfl⟩
abbrev main_call6_v7 : Ref sig .tc := ⟨.hbm, 247, rfl⟩
abbrev main_call6_v8 : Ref sig .tc := ⟨.hbm, 248, rfl⟩
abbrev main_call6_v9 : Ref sig .tc := ⟨.hbm, 249, rfl⟩
abbrev main_call6_v10 : Ref sig .tc := ⟨.hbm, 250, rfl⟩
abbrev main_v160 : Ref sig .tc := ⟨.hbm, 251, rfl⟩
abbrev main_v161 : Ref sig .tc := ⟨.hbm, 252, rfl⟩
abbrev main_call7_c : Ref sig .tc := ⟨.hbm, 253, rfl⟩
abbrev main_call7_v0 : Ref sig .tc := ⟨.hbm, 254, rfl⟩
abbrev main_call7_v1 : Ref sig .tc := ⟨.hbm, 255, rfl⟩
abbrev main_call7_c_0 : Ref sig .tc := ⟨.hbm, 256, rfl⟩
abbrev main_call7_v2 : Ref sig .tc := ⟨.hbm, 257, rfl⟩
abbrev main_call7_v3 : Ref sig .tc := ⟨.hbm, 258, rfl⟩
abbrev main_call7_v4 : Ref sig .tc := ⟨.hbm, 259, rfl⟩
abbrev main_call7_v5 : Ref sig .tc := ⟨.hbm, 260, rfl⟩
abbrev main_call7_c_1 : Ref sig .tc := ⟨.hbm, 261, rfl⟩
abbrev main_call7_c_2 : Ref sig .tc := ⟨.hbm, 262, rfl⟩
abbrev main_call7_v6 : Ref sig .tc := ⟨.hbm, 263, rfl⟩
abbrev main_call7_v7 : Ref sig .tc := ⟨.hbm, 264, rfl⟩
abbrev main_call7_v8 : Ref sig .tc := ⟨.hbm, 265, rfl⟩
abbrev main_call7_v9 : Ref sig .tc := ⟨.hbm, 266, rfl⟩
abbrev main_call7_v10 : Ref sig .tc := ⟨.hbm, 267, rfl⟩
abbrev main_call7_v11 : Ref sig .tc := ⟨.hbm, 268, rfl⟩
abbrev main_call7_c_3 : Ref sig .tc := ⟨.hbm, 269, rfl⟩
abbrev main_call7_v12 : Ref sig .tc := ⟨.hbm, 270, rfl⟩
abbrev main_call7_v13 : Ref sig .tc := ⟨.hbm, 271, rfl⟩
abbrev main_call7_cst : Ref sig .tc := ⟨.hbm, 272, rfl⟩
abbrev main_call7_v14 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_cst_21 : Ref sig .tc := ⟨.hbm, 278, rfl⟩
abbrev main_v166 : Ref sig .tc := ⟨.hbm, 279, rfl⟩
abbrev main_cst_22 : Ref sig .tc := ⟨.hbm, 280, rfl⟩
abbrev main_call8_v0 : Ref sig .tc := ⟨.hbm, 281, rfl⟩
abbrev main_call8_v1 : Ref sig .tc := ⟨.hbm, 282, rfl⟩
abbrev main_v167 : Ref sig .tc := ⟨.hbm, 283, rfl⟩
abbrev main_v168 : Ref sig .tc := ⟨.hbm, 284, rfl⟩
abbrev main_c_23 : Ref sig .tc := ⟨.hbm, 285, rfl⟩
abbrev main_v169 : Ref sig .tc := ⟨.hbm, 286, rfl⟩
abbrev main_c_24 : Ref sig .tc := ⟨.hbm, 287, rfl⟩
abbrev main_v170 : Ref sig .tc := ⟨.hbm, 288, rfl⟩
abbrev main_v171 : Ref sig .tc := ⟨.hbm, 289, rfl⟩
abbrev main_c_25 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_c_26 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_call9_v0 : Ref sig .tc := ⟨.hbm, 298, rfl⟩
abbrev main_call9_v1_0 : Ref sig .tc := ⟨.hbm, 299, rfl⟩
abbrev main_v178 : Ref sig .tc := ⟨.hbm, 300, rfl⟩
abbrev main_call10_v0 : Ref sig .tc := ⟨.hbm, 301, rfl⟩
abbrev main_call10_v1_0 : Ref sig .tc := ⟨.hbm, 302, rfl⟩
abbrev main_v179 : Ref sig .tc := ⟨.hbm, 303, rfl⟩
abbrev main_v180 : Ref sig .tc := ⟨.hbm, 304, rfl⟩
abbrev main_v181 : Ref sig .tc := ⟨.hbm, 305, rfl⟩
abbrev main_v182 : Ref sig .tc := ⟨.hbm, 306, rfl⟩
abbrev main_cst_27 : Ref sig .tc := ⟨.hbm, 307, rfl⟩
abbrev main_call11_v0 : Ref sig .tc := ⟨.hbm, 308, rfl⟩
abbrev main_call11_v1 : Ref sig .tc := ⟨.hbm, 309, rfl⟩
abbrev main_v183 : Ref sig .tc := ⟨.hbm, 310, rfl⟩
abbrev main_cst_28 : Ref sig .tc := ⟨.hbm, 311, rfl⟩
abbrev main_v184 : Ref sig .tc := ⟨.hbm, 312, rfl⟩
abbrev main_v185 : Ref sig .tc := ⟨.hbm, 313, rfl⟩
abbrev main_cst_29 : Ref sig .tc := ⟨.hbm, 314, rfl⟩
abbrev main_v186 : Ref sig .tc := ⟨.hbm, 315, rfl⟩
abbrev main_v187 : Ref sig .tc := ⟨.hbm, 316, rfl⟩
abbrev main_cst_30 : Ref sig .tc := ⟨.hbm, 317, rfl⟩
abbrev main_v188 : Ref sig .tc := ⟨.hbm, 318, rfl⟩
abbrev main_v189 : Ref sig .tc := ⟨.hbm, 319, rfl⟩
abbrev main_cst_31 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩
abbrev main_v194 : Ref sig .tc := ⟨.hbm, 325, rfl⟩
abbrev main_v195 : Ref sig .tc := ⟨.hbm, 326, rfl⟩
abbrev main_v196 : Ref sig .tc := ⟨.hbm, 327, rfl⟩
abbrev main_cst_32 : Ref sig .tc := ⟨.hbm, 328, rfl⟩
abbrev main_call12_v0 : Ref sig .tc := ⟨.hbm, 329, rfl⟩
abbrev main_call12_v1 : Ref sig .tc := ⟨.hbm, 330, rfl⟩
abbrev main_v197 : Ref sig .tc := ⟨.hbm, 331, rfl⟩
abbrev main_cst_33 : Ref sig .tc := ⟨.hbm, 332, rfl⟩
abbrev main_v198 : Ref sig .tc := ⟨.hbm, 333, rfl⟩
abbrev main_c_34 : Ref sig .tc := ⟨.hbm, 334, rfl⟩
abbrev main_v199 : Ref sig .tc := ⟨.hbm, 335, rfl⟩
abbrev main_v200 : Ref sig .tc := ⟨.hbm, 336, rfl⟩
abbrev main_cst_35 : Ref sig .tc := ⟨.hbm, 337, rfl⟩
abbrev main_v201 : Ref sig .tc := ⟨.hbm, 338, rfl⟩
abbrev main_v202 : Ref sig .tc := ⟨.hbm, 339, rfl⟩
abbrev main_v203 : Ref sig .tc := ⟨.hbm, 340, rfl⟩
abbrev main_v204 : Ref sig .tc := ⟨.hbm, 341, rfl⟩
abbrev main_v205 : Ref sig .tc := ⟨.hbm, 342, rfl⟩

abbrev nD : Nat := 1
abbrev τ : Topo := Topo.v7x

variable {F : FTy → Type} [FloatOps F]
-- ==== Proof.Frames.lean ====
/- The frame claims: each program runs to its end, leaves its arguments as they were and its semaphores at
   zero. The two kernels' are the generated frames; the reference has no semaphores and its run says what
   its arguments hold. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_ordinary
public import Idealize.ShloMosaic.Lib.Quiescent

@[expose] public section

noncomputable section

namespace Cert.Frames

open Idealize.ShloMosaic Idealize.SL.Sem

theorem kernel : Cert.quiescent_Kernel (hKernel := Cert.Kernel.Gen.facts) :=
  fun m ρ _ => Cert.Kernel.Gen.frame m ρ

theorem kernelIdeal : Cert.quiescent_KernelIdeal (hKernelIdeal := Cert.KernelIdeal.Gen.facts) :=
  fun m ρ _ => Cert.KernelIdeal.Gen.frame m ρ

theorem reference : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-! The same of arguments that the precondition holds of. -/

theorem kernelIdeal_ordinary : Cert.quiescent_KernelIdeal_pre_ordinary (hKernelIdeal := Cert.KernelIdeal.Gen.facts)
    (hPre_ordinary := Cert.Pre_ordinary.Gen.facts) := fun m ρ _ => kernelIdeal m ρ trivial

theorem reference_ordinary : Cert.quiescent_ReferenceIdeal_pre_ordinary (hReferenceIdeal := Cert.ReferenceIdeal.Gen.facts)
    (hPre_ordinary := Cert.Pre_ordinary.Gen.facts) := fun m ρ _ => reference m ρ trivial

end Cert.Frames

end
-- ==== Proof.Consts.lean ====
/- The float words the two programs print, as the reals they stand for. -/
module

public import Idealize.ShloMosaic.Lib.Pointwise
public import Mathlib.Tactic.Linarith

@[expose] public section

noncomputable section

namespace Cert.Mbl

open Idealize.ShloMosaic

theorem word_bot : Ideal.ofBits .f32 0xFF800000#32 = ⊥ := by simp [Ideal.ofBits, Ideal.ieee]

theorem word_top : Ideal.ofBits .f32 0x7F800000#32 = ⊤ := by simp [Ideal.ofBits, Ideal.ieee]

theorem word_half : Ideal.ofBits .f32 0x3F000000#32 = ((1 / 2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul, -EReal.coe_neg]; norm_num

theorem word_neg_one : Ideal.ofBits .f32 0xBF800000#32 = ((-1 : ℝ) : EReal) := by
  simp [Ideal.ofBits, Ideal.ieee, -EReal.coe_mul, -EReal.coe_neg]; norm_num

theorem word_two : Ideal.ofBits .f32 0x40000000#32 = ((2 : ℝ) : EReal) := by
  simp [Ideal.ofBits, Ideal.ieee, -EReal.coe_mul]; norm_num

theorem word_three : Ideal.ofBits .f32 0x40400000#32 = ((3 : ℝ) : EReal) := by
  simp [Ideal.ofBits, Ideal.ieee, -EReal.coe_mul]; norm_num

theorem word_32 : Ideal.ofBits .f32 0x42000000#32 = ((32 : ℝ) : EReal) := by
  simp [Ideal.ofBits, Ideal.ieee, -EReal.coe_mul]; norm_num

theorem word_anchors : Ideal.ofBits .f32 0x46BFE800#32 = ((24564 : ℝ) : EReal) := by
  simp [Ideal.ofBits, Ideal.ieee, -EReal.coe_mul]; norm_num

/-- The grid of the bisection: forty-two halvings. -/
theorem word_grid : Ideal.ofBits .f32 0x2A800000#32 = ((1 / 2 ^ 42 : ℝ) : EReal) := by
  simp [Ideal.ofBits, Ideal.ieee, -EReal.coe_mul]; norm_num

/-- The small number added to areas and sizes is a real. -/
theorem word_eps : ∃ e : ℝ, Ideal.ofBits .f32 0x33D6BF95#32 = (e : EReal) := by
  simp [Ideal.ofBits, Ideal.ieee, -EReal.coe_mul]

/-- A position, counted in 32-bit words and read as a float, is that number. -/
theorem position {n : ℕ} (h : n < 2 ^ 31) :
    (FloatOps.sitofp .f32 (BitVec.ofNat 32 n) : Ideal .f32) = (((n : ℕ) : ℝ) : EReal) := by
  have : (BitVec.ofNat 32 n).toInt = n := by
    rw [BitVec.toInt_eq_toNat_cond, BitVec.toNat_ofNat]
    have : n % 2 ^ 32 = n := Nat.mod_eq_of_lt (by omega)
    rw [this, if_pos (by omega)]
  show (((BitVec.ofNat 32 n).toInt : ℝ) : EReal) = _
  rw [this]; norm_cast

end Cert.Mbl

end
-- ==== Proof.Match.lean ====
/- Matching objects to anchors in one image, from the table `q` of overlaps (object by anchor). An object
   claims the anchor it overlaps best when that overlap is not negligible; an anchor is positive when some
   overlap exceeds a half or when it is claimed; it is matched with the last claiming object that overlaps
   it more than any other does, otherwise with the object it overlaps best. The kernel finds all of this
   with maxima and minima of positions written as floats; the two say the same. -/
module

public import proofs.«01_k».proof.Proof.Consts

@[expose] public section

noncomputable section

namespace Cert.Mbl

open Finset Idealize.ShloMosaic

/-- `i` is the first place where `f` is largest. -/
def IsFirst {n : ℕ} (f : Fin n → EReal) (i : Fin n) : Prop := (∀ j, f j ≤ f i) ∧ ∀ j, f j = f i → i ≤ j

theorem exists_isFirst {n : ℕ} [NeZero n] (f : Fin n → EReal) : ∃ i, IsFirst f i := by
  obtain ⟨m, -, hm⟩ := exists_max_image univ f ⟨0, mem_univ _⟩
  obtain ⟨i, hi, hmin⟩ := exists_min_image (univ.filter fun j => f j = f m) id ⟨m, by simp⟩
  have hi := (mem_filter.1 hi).2
  exact ⟨i, fun j => hi ▸ hm j (mem_univ _), fun j hj => hmin j (mem_filter.2 ⟨mem_univ _, hj.trans hi⟩)⟩

theorem IsFirst.unique {n : ℕ} {f : Fin n → EReal} {i j : Fin n} (hi : IsFirst f i) (hj : IsFirst f j) : i = j :=
  le_antisymm (hi.2 j (le_antisymm (hi.1 j) (hj.1 i))) (hj.2 i (le_antisymm (hj.1 i) (hi.1 j)))

/-- The first place where `f` is largest. -/
def first {n : ℕ} [NeZero n] (f : Fin n → EReal) : Fin n := (exists_isFirst f).choose

theorem isFirst_first {n : ℕ} [NeZero n] (f : Fin n → EReal) : IsFirst f (first f) := (exists_isFirst f).choose_spec

theorem IsFirst.eq_first {n : ℕ} [NeZero n] {f : Fin n → EReal} {i : Fin n} (h : IsFirst f i) : i = first f :=
  h.unique (isFirst_first f)

theorem IsFirst.sup {n : ℕ} {f : Fin n → EReal} {i : Fin n} (h : IsFirst f i) : univ.sup f = f i :=
  le_antisymm (Finset.sup_le fun j _ => h.1 j) (le_sup (f := f) (mem_univ i))

/-- A position as the kernel carries it: a float. -/
abbrev at' (n : ℕ) : EReal := ((n : ℝ) : EReal)

theorem at'_inj {m n : ℕ} : at' m = at' n ↔ m = n := by simp [at', EReal.coe_eq_coe_iff]

theorem at'_le {m n : ℕ} : at' m ≤ at' n ↔ m ≤ n := by simp [at', EReal.coe_le_coe_iff]

/-- The least position at which `f` meets its maximum is the first one. -/
theorem inf_first {n : ℕ} [NeZero n] (f : Fin n → EReal) :
    (univ.inf fun i : Fin n => if f i = univ.sup f then at' i else at' n) = at' (first f) := by
  have h := isFirst_first f
  rw [h.sup]
  refine le_antisymm ?_ (Finset.le_inf fun j _ => ?_)
  · refine (Finset.inf_le (mem_univ (first f))).trans (le_of_eq ?_)
    rw [if_pos rfl]
  · split
    · rename_i hj; exact at'_le.2 (h.2 j hj)
    · exact at'_le.2 (first f).isLt.le

/-- Overlaps at or below this do not count (the program's `1e-05`). -/
def negligible : EReal := Ideal.ofBits .f32 0x3727C5AC#32

/-- An overlap above this makes an anchor positive. -/
def half : EReal := Ideal.ofBits .f32 0x3F000000#32

section

variable (q : Fin 32 → Fin 24564 → EReal)

/-- An anchor's best overlap. -/
def best (a : Fin 24564) : EReal := univ.sup fun o => q o a

/-- An object's best overlap. -/
def reach (o : Fin 32) : EReal := univ.sup fun a => q o a

/-- Object `o` claims anchor `a`. -/
def Claims (o : Fin 32) (a : Fin 24564) : Prop := a = first (q o) ∧ negligible < reach q o

/-- Object `o` takes anchor `a` over: it claims it and overlaps it more than any object does. -/
def Takes (o : Fin 32) (a : Fin 24564) : Prop := Claims q o a ∧ best q a < reach q o

/-- Anchor `a` is positive. -/
def Pos (a : Fin 24564) : Prop := half < best q a ∨ ∃ o, Claims q o a

/-- `o` is the object anchor `a` is matched with. -/
def IsMatch (a : Fin 24564) (o : Fin 32) : Prop :=
  (Takes q o a ∧ ∀ o', Takes q o' a → o' ≤ o) ∨ ((∀ o', ¬ Takes q o' a) ∧ o = first fun o => q o a)

theorem exists_isMatch (a : Fin 24564) : ∃ o, IsMatch q a o := by
  classical
  by_cases h : ∃ o, Takes q o a
  · obtain ⟨o₀, ho₀⟩ := h
    obtain ⟨o, ho, hmax⟩ := exists_max_image (univ.filter fun o => Takes q o a) id ⟨o₀, by simpa using ho₀⟩
    exact ⟨o, .inl ⟨(mem_filter.1 ho).2, fun o' h' => hmax o' (mem_filter.2 ⟨mem_univ _, h'⟩)⟩⟩
  · exact ⟨_, .inr ⟨fun o' h' => h ⟨o', h'⟩, rfl⟩⟩

/-- The object anchor `a` is matched with. -/
def obj (a : Fin 24564) : Fin 32 := (exists_isMatch q a).choose

theorem isMatch_obj (a : Fin 24564) : IsMatch q a (obj q a) := (exists_isMatch q a).choose_spec

/-- What the kernel keeps for an object at an anchor: its position where it takes the anchor over, `-1/2` where
    it only claims it, `-1` elsewhere. -/
def code (o : Fin 32) (a : Fin 24564) : EReal :=
  if at' a = (if negligible < reach q o then at' (first (q o)) else ((-1 : ℝ) : EReal)) then
    (if best q a < reach q o then at' o else ((-(1 / 2) : ℝ) : EReal))
  else ((-1 : ℝ) : EReal)

/-- The kernel's one number per anchor. -/
def enc (a : Fin 24564) : EReal := univ.sup fun o => code q o a

theorem claims_iff (o : Fin 32) (a : Fin 24564) :
    at' a = (if negligible < reach q o then at' (first (q o)) else ((-1 : ℝ) : EReal)) ↔ Claims q o a := by
  unfold Claims
  split
  · rename_i h
    rw [at'_inj]
    exact ⟨fun e => ⟨Fin.ext e, h⟩, fun e => congrArg Fin.val e.1⟩
  · rename_i h
    refine ⟨fun e => ?_, fun e => absurd e.2 h⟩
    rw [at', EReal.coe_eq_coe_iff] at e
    have : (0 : ℝ) ≤ ((a : ℕ) : ℝ) := Nat.cast_nonneg _
    linarith

theorem code_takes {o : Fin 32} {a : Fin 24564} (h : Takes q o a) : code q o a = at' o := by
  rw [code, if_pos ((claims_iff q o a).2 h.1), if_pos h.2]

theorem code_claims {o : Fin 32} {a : Fin 24564} (h : Claims q o a) (h' : ¬ Takes q o a) :
    code q o a = ((-(1 / 2) : ℝ) : EReal) := by
  rw [code, if_pos ((claims_iff q o a).2 h), if_neg fun hlt => h' ⟨h, hlt⟩]

theorem code_other {o : Fin 32} {a : Fin 24564} (h : ¬ Claims q o a) : code q o a = ((-1 : ℝ) : EReal) := by
  rw [code, if_neg fun e => h ((claims_iff q o a).1 e)]

/-- The number exceeds `-1` just where the anchor is claimed. -/
theorem neg_one_lt_enc (a : Fin 24564) : ((-1 : ℝ) : EReal) < enc q a ↔ ∃ o, Claims q o a := by
  unfold enc
  rw [Finset.lt_sup_iff]
  refine exists_congr fun o => ⟨fun h => ?_, fun h => ⟨mem_univ _, ?_⟩⟩
  · by_contra hc
    rw [code_other q hc] at h
    exact lt_irrefl _ h.2
  · by_cases ht : Takes q o a
    · rw [code_takes q ht, at', EReal.coe_lt_coe_iff]
      have : (0 : ℝ) ≤ ((o : ℕ) : ℝ) := Nat.cast_nonneg _
      linarith
    · rw [code_claims q h ht, EReal.coe_lt_coe_iff]; norm_num

/-- The anchor's object, as the kernel reads it off that number. -/
theorem pick_eq (a : Fin 24564) :
    (if 0 ≤ enc q a then enc q a else at' (first fun o => q o a)) = at' (obj q a) := by
  rcases isMatch_obj q a with ⟨ht, hmax⟩ | ⟨hno, he⟩
  · have henc : enc q a = at' (obj q a) := by
      refine le_antisymm (Finset.sup_le fun o _ => ?_) ?_
      · by_cases h : Takes q o a
        · rw [code_takes q h]; exact at'_le.2 (hmax o h)
        · have h0 : (0 : ℝ) ≤ ((obj q a : ℕ) : ℝ) := Nat.cast_nonneg _
          by_cases hc : Claims q o a
          · rw [code_claims q hc h, at', EReal.coe_le_coe_iff]; linarith
          · rw [code_other q hc, at', EReal.coe_le_coe_iff]; linarith
      · exact (le_of_eq (code_takes q ht).symm).trans (le_sup (f := fun o => code q o a) (mem_univ _))
    rw [henc, if_pos]
    exact EReal.coe_nonneg.2 (Nat.cast_nonneg _)
  · rw [if_neg, he]
    rw [not_le]
    refine lt_of_le_of_lt (b := ((-(1 / 2) : ℝ) : EReal)) (Finset.sup_le fun o _ => ?_) ?_
    · by_cases hc : Claims q o a
      · rw [code_claims q hc (hno o)]
      · rw [code_other q hc, EReal.coe_le_coe_iff]; norm_num
    · rw [← EReal.coe_zero, EReal.coe_lt_coe_iff]; norm_num

end

end Cert.Mbl

end
-- ==== Proof.Spec.lean ====
/- The loss of one image, as both programs compute it: overlaps, matches, the two losses. An image is its
   boxes `b o d` (object, corner coordinate), its anchors `n d a` (coordinate of centre and size, anchor), its
   labels `l o`, its predicted offsets `p d a` and its scores `s c a`. -/
module

public import proofs.«01_k».proof.Proof.Match

@[expose] public section

noncomputable section

namespace Cert.Mbl

open Finset Idealize.ShloMosaic

/-- The small number added to areas and relative sizes (the program's `1e-07`). -/
def eps : EReal := Ideal.ofBits .f32 0x33D6BF95#32

/-- The area box `b` shares with the anchor of centre `n 0, n 1` and size `n 2, n 3`. -/
def shared (b n : Fin 4 → EReal) : EReal :=
  max 0 (min (b 2) (n 0 + n 2 * half) - max (b 0) (n 0 - n 2 * half)) *
    max 0 (min (b 3) (n 1 + n 3 * half) - max (b 1) (n 1 - n 3 * half))

/-- The share of their union that box `b` and anchor `n` have in common. -/
def overlap (b n : Fin 4 → EReal) : EReal :=
  Ideal.div (shared b n) ((b 2 - b 0) * (b 3 - b 1) + (n 2 * n 3 + eps) - shared b n)

/-- The table of overlaps of an image. -/
def table (b : Fin 32 → Fin 4 → EReal) (n : Fin 4 → Fin 24564 → EReal) : Fin 32 → Fin 24564 → EReal :=
  fun o a => overlap (b o) fun d => n d a

/-- The lower corner's coordinate along axis `k`, which is also the centre's. -/
def lo (k : Fin 2) : Fin 4 := ⟨k, by omega⟩

/-- The upper corner's coordinate along axis `k`, which is also the size's. -/
def hi (k : Fin 2) : Fin 4 := ⟨2 + k, by omega⟩

/-- The offset of box `m`'s centre from anchor `n`'s, in anchor sizes. -/
def centre (m n : Fin 4 → EReal) (k : Fin 2) : EReal :=
  Ideal.div ((m (lo k) + m (hi k)) * half - n (lo k)) (n (hi k))

/-- The logarithm of box `m`'s size over anchor `n`'s. -/
def size (m n : Fin 4 → EReal) (k : Fin 2) : EReal :=
  Ideal.log (Ideal.div (m (hi k) - m (lo k)) (n (hi k)) + eps)

/-- The smooth absolute value. -/
def smooth (d : EReal) : EReal :=
  if (FloatOps.absf d : Ideal .f32) < 1 then half * d * d else (FloatOps.absf d : Ideal .f32) - half

section

variable (q : Fin 32 → Fin 24564 → EReal) (b : Fin 32 → Fin 4 → EReal) (n p : Fin 4 → Fin 24564 → EReal)

open Classical in
/-- One for a positive anchor, zero for another. -/
def mark (a : Fin 24564) : EReal := if Pos q a then 1 else 0

/-- An anchor's localisation loss along axis `k`, were it positive. -/
def offLoss (k : Fin 2) (a : Fin 24564) : EReal :=
  smooth (p (lo k) a - centre (b (obj q a)) (fun d => n d a) k) +
    smooth (p (hi k) a - size (b (obj q a)) (fun d => n d a) k)

/-- The localisation loss of an image. -/
def locLoss : EReal := ∑ k : Fin 2, ∑ a : Fin 24564, offLoss q b n p k a * mark q a

/-- The number of positive anchors. -/
def posCount : EReal := ∑ a : Fin 24564, mark q a

variable (l : Fin 32 → Fin 20) (s : Fin 21 → Fin 24564 → EReal)

open Classical in
/-- An anchor's class: one more than its object's label when it is positive, the background `0` otherwise. -/
def cls (a : Fin 24564) : Fin 21 := if Pos q a then (l (obj q a)).succ else 0

/-- An anchor's classification loss: the logarithm of the sum of its scores' exponentials, less the score of its
    class. -/
def clsLoss (a : Fin 24564) : EReal := Ideal.log (∑ c : Fin 21, Ideal.exp (s c a)) - s (cls q l a) a

/-- The positive anchors' classification loss. -/
def confLoss : EReal := ∑ a : Fin 24564, clsLoss q l s a * mark q a

open Classical in
/-- A negative anchor's classification loss, zero at a positive one. -/
def mined (a : Fin 24564) : EReal := if Pos q a then 0 else clsLoss q l s a

end

end Cert.Mbl

end
-- ==== Proof.KernelMatch.lean ====
/- What the kernel's block says of overlaps and matches, at an index: the table of overlaps, each anchor's best
   overlap and the first object reaching it, each object's best overlap and the first anchor reaching it, the
   number that marks claimed anchors, and the positive anchors. -/
module

public import proofs.«01_k».proof.Proof.Gen.KernelIdeal.Skeleton
public import proofs.«01_k».proof.Proof.Spec

@[expose] public section

set_option maxRecDepth 16384

noncomputable section

namespace Cert.KernelIdeal.Image

open Idealize.ShloMosaic Idealize.ShloMosaic.TcCoe Cert.KernelIdeal Cert.KernelIdeal.Gen Cert.Mbl Finset

/-- A table of four images: object by anchor. -/
abbrev Tab := FVec Ideal S4x32x24564 .f32

/-- Image `g` of a table. -/
def image (T : Tab) (g : Fin 4) : Fin 32 → Fin 24564 → EReal := fun o a => T (ix3 g o a)

/-- Image `g`'s boxes. -/
def boxes (v0 : FVec Ideal S4x32x4 .f32) (g : Fin 4) : Fin 32 → Fin 4 → EReal := fun o d => v0 (ix3 g o d)

/-- The anchors. -/
def anchors (v3 : FVec Ideal S4x24564 .f32) : Fin 4 → Fin 24564 → EReal := fun d a => v3 (ix2 d a)

theorem fold_max_bot {ι : Type*} (s : Finset ι) (f : ι → EReal) :
    s.fold max (Ideal.ofBits .f32 0xFF800000#32) f = s.sup f := by
  rw [word_bot]; rfl

theorem fold_min_top {ι : Type*} (s : Finset ι) (f : ι → EReal) :
    s.fold min (Ideal.ofBits .f32 0x7F800000#32) f = s.inf f := by
  rw [word_top]; rfl

theorem word_obj (o : Fin 32) : (FloatOps.sitofp .f32 (BitVec.ofNat 32 o) : Ideal .f32) = at' o :=
  position (by omega)

theorem word_anchor (a : Fin 24564) : (FloatOps.sitofp .f32 (BitVec.ofNat 32 a) : Ideal .f32) = at' a :=
  position (by omega)

/-! The pieces of the block, each over a table `T`. -/

/-- Each anchor's best overlap. -/
def colMax (T : Tab) : FVec Ideal S4x1x24564 .f32 :=
  shapeCast S4x1x24564 (multiReduction (F := Ideal) .maximumf [1] S4x24564 T 0xFF800000#32
    reduces_S4x32x24564_S4x24564 (.inl rfl) rfl) shapeCasts_S4x24564_S4x1x24564

theorem colMax_apply (T : Tab) (g : Fin 4) (a : Fin 24564) :
    colMax T (ix3 g (0 : Fin 1) a) = best (image T g) a := by
  pointwise [colMax]
  exact fold_max_bot _ _

/-- The first object reaching `B`. -/
def colFirst (T : Tab) (B : FVec Ideal S4x1x24564 .f32) : FVec Ideal S4x1x24564 .f32 :=
  shapeCast S4x1x24564 (multiReduction (F := Ideal) .minimumf [1] S4x24564
    (select (cmpf .oeq T (broadcastTo S4x32x24564 B broadcasts_S4x1x24564_S4x32x24564)) (k0_pay12 (F := Ideal))
      (broadcast S4x32x24564 (Scalar.ofBits .f32 0x42000000#32 : Ideal .f32)))
    0x7F800000#32 reduces_S4x32x24564_S4x24564 (.inl rfl) rfl) shapeCasts_S4x24564_S4x1x24564

theorem colFirst_apply (T : Tab) (B : FVec Ideal S4x1x24564 .f32) (g : Fin 4) (a : Fin 24564)
    (hB : B (ix3 g (0 : Fin 1) a) = best (image T g) a) :
    colFirst T B (ix3 g (0 : Fin 1) a) = at' (first fun o => image T g o a) := by
  pointwise [colFirst, k0_pay12]
  rw [fold_min_top, ← inf_first, hB, word_32]
  exact congrArg _ (funext fun o => by rw [word_obj]; norm_cast)

/-- Each object's best overlap. -/
def rowMax (T : Tab) : FVec Ideal S4x32x1 .f32 :=
  shapeCast S4x32x1 (multiReduction (F := Ideal) .maximumf [2] S4x32 T 0xFF800000#32
    reduces_S4x32x24564_S4x32 (.inl rfl) rfl) shapeCasts_S4x32_S4x32x1

theorem rowMax_apply (T : Tab) (g : Fin 4) (o : Fin 32) :
    rowMax T (ix3 g o (0 : Fin 1)) = reach (image T g) o := by
  pointwise [rowMax]
  exact fold_max_bot _ _

/-- The anchors' positions. -/
def places : Tab := sitofp .f32 (iota .tc S4x32x24564 32 [2] iota_S4x32x24564_d2_w32)

/-- The first anchor reaching `R`. -/
def rowFirst (T : Tab) (R : FVec Ideal S4x32x1 .f32) : FVec Ideal S4x32x1 .f32 :=
  shapeCast S4x32x1 (multiReduction (F := Ideal) .minimumf [2] S4x32
    (select (cmpf .oeq T (broadcastTo S4x32x24564 R broadcasts_S4x32x1_S4x32x24564)) places
      (broadcast S4x32x24564 (Scalar.ofBits .f32 0x46BFE800#32 : Ideal .f32)))
    0x7F800000#32 reduces_S4x32x24564_S4x32 (.inl rfl) rfl) shapeCasts_S4x32_S4x32x1

theorem rowFirst_apply (T : Tab) (R : FVec Ideal S4x32x1 .f32) (g : Fin 4) (o : Fin 32)
    (hR : R (ix3 g o (0 : Fin 1)) = reach (image T g) o) :
    rowFirst T R (ix3 g o (0 : Fin 1)) = at' (first (image T g o)) := by
  pointwise [rowFirst, places]
  rw [fold_min_top, ← inf_first, hR, word_anchors]
  exact congrArg _ (funext fun a => by rw [word_anchor]; norm_cast)

/-- The number kept per anchor, from best overlaps `B`, `R` and the anchors `f` reaching `R`. -/
def keep (B : FVec Ideal S4x1x24564 .f32) (R f : FVec Ideal S4x32x1 .f32) : FVec Ideal S4x24564 .f32 :=
  multiReduction (F := Ideal) .maximumf [1] S4x24564
    (select (cmpf .oeq places (broadcastTo S4x32x24564
        (select (cmpf .ogt R (broadcast S4x32x1 (Scalar.ofBits .f32 0x3727C5AC#32 : Ideal .f32))) f
          (broadcast S4x32x1 (Scalar.ofBits .f32 0xBF800000#32 : Ideal .f32))) broadcasts_S4x32x1_S4x32x24564))
      (select (cmpf .olt (broadcastTo S4x32x24564 B broadcasts_S4x1x24564_S4x32x24564)
          (broadcastTo S4x32x24564 R broadcasts_S4x32x1_S4x32x24564)) (k0_pay12 (F := Ideal))
        (broadcast S4x32x24564 (Scalar.ofBits .f32 0xBF000000#32 : Ideal .f32)))
      (broadcast S4x32x24564 (Scalar.ofBits .f32 0xBF800000#32 : Ideal .f32)))
    0xFF800000#32 reduces_S4x32x24564_S4x24564 (.inl rfl) rfl

theorem keep_apply (T : Tab) (B : FVec Ideal S4x1x24564 .f32) (R f : FVec Ideal S4x32x1 .f32) (g : Fin 4)
    (a : Fin 24564) (hB : ∀ a, B (ix3 g (0 : Fin 1) a) = best (image T g) a)
    (hR : ∀ o, R (ix3 g o (0 : Fin 1)) = reach (image T g) o)
    (hf : ∀ o, f (ix3 g o (0 : Fin 1)) = at' (first (image T g o))) :
    keep B R f (ix2 g a) = enc (image T g) a := by
  pointwise [keep, places, k0_pay12]
  rw [fold_max_bot]
  refine congrArg _ (funext fun o => ?_)
  rw [hB, hR, hf, word_anchor, word_obj, word_neg_one, word_neg_half]
  rfl

/-! The block's own values. -/

section

variable (v0 : FVec Ideal S4x32x4 .f32) (v3 : FVec Ideal S4x24564 .f32)

/-- The table of overlaps. -/
def tab : Tab :=
  k0_pay11 (F := Ideal) (k0_pay3 v3) (k0_pay4 v3) (k0_pay5 v0) (k0_pay6 v0) (k0_pay7 v0) (k0_pay8 v0)
    (k0_pay9 v0 v3) (k0_pay10 v0 v3) (Scalar.ofBits .f32 0x00000000#32 : Ideal .f32)

theorem tab_apply (g : Fin 4) (o : Fin 32) (a : Fin 24564) :
    tab v0 v3 (ix3 g o a) = table (boxes v0 g) (anchors v3) o a := by
  pointwise [tab, k0_pay11, k0_pay3, k0_pay4, k0_pay5, k0_pay6, k0_pay7, k0_pay8, k0_pay9, k0_pay10, k0_pay2]
  rfl

theorem image_tab (g : Fin 4) : image (tab v0 v3) g = table (boxes v0 g) (anchors v3) :=
  funext fun o => funext fun a => tab_apply v0 v3 g o a

/-- Each anchor's best overlap. -/
def top : FVec Ideal S4x1x24564 .f32 :=
  k0_pay13 (F := Ideal) (k0_pay3 v3) (k0_pay4 v3) (k0_pay5 v0) (k0_pay6 v0) (k0_pay7 v0) (k0_pay8 v0)
    (k0_pay9 v0 v3) (k0_pay10 v0 v3) (Scalar.ofBits .f32 0x00000000#32 : Ideal .f32)

/-- The first object with that overlap. -/
def nearest : FVec Ideal S4x1x24564 .f32 :=
  k0_pay14 (F := Ideal) (k0_pay3 v3) (k0_pay4 v3) (k0_pay5 v0) (k0_pay6 v0) (k0_pay7 v0) (k0_pay8 v0)
    (k0_pay9 v0 v3) (k0_pay10 v0 v3) (Scalar.ofBits .f32 0x00000000#32 : Ideal .f32)

/-- The number kept per anchor. -/
def kept : FVec Ideal S4x24564 .f32 :=
  k0_pay15 (F := Ideal) (k0_pay3 v3) (k0_pay4 v3) (k0_pay5 v0) (k0_pay6 v0) (k0_pay7 v0) (k0_pay8 v0)
    (k0_pay9 v0 v3) (k0_pay10 v0 v3) (Scalar.ofBits .f32 0x00000000#32 : Ideal .f32)

theorem top_apply (g : Fin 4) (a : Fin 24564) :
    top v0 v3 (ix3 g (0 : Fin 1) a) = best (table (boxes v0 g) (anchors v3)) a := by
  rw [← image_tab]; exact colMax_apply (tab v0 v3) g a

theorem nearest_apply (g : Fin 4) (a : Fin 24564) :
    nearest v0 v3 (ix3 g (0 : Fin 1) a) = at' (first fun o => table (boxes v0 g) (anchors v3) o a) := by
  rw [← image_tab]
  exact colFirst_apply (tab v0 v3) (colMax (tab v0 v3)) g a (colMax_apply _ g a)

theorem kept_apply (g : Fin 4) (a : Fin 24564) :
    kept v0 v3 (ix2 g a) = enc (table (boxes v0 g) (anchors v3)) a := by
  rw [← image_tab]
  exact keep_apply (tab v0 v3) (colMax (tab v0 v3)) (rowMax (tab v0 v3)) (rowFirst (tab v0 v3) (rowMax (tab v0 v3))) g a
    (colMax_apply _ g) (rowMax_apply _ g) fun o => rowFirst_apply _ _ g o (rowMax_apply _ g o)

/-- The bit that says an anchor is positive. -/
def positive : IVec S4x1x24564 1 := k0_pay17 (F := Ideal) (top v0 v3) (kept v0 v3)

omit v0 v3 in
theorem bit_apply (B : FVec Ideal S4x1x24564 .f32) (K : FVec Ideal S4x24564 .f32) (g : Fin 4) (a : Fin 24564) :
    k0_pay17 (F := Ideal) B K (ix3 g (0 : Fin 1) a) = 1#1 ↔
      half < B (ix3 g (0 : Fin 1) a) ∨ ((-1 : ℝ) : EReal) < K (ix2 g a) := by
  pointwise [k0_pay17, k0_pay16]
  rw [word_neg_one]
  change IntOp.ori (BitVec.ofBool (decide (half < B (ix3 g (0 : Fin 1) a)))) _ = 1#1 ↔ _
  by_cases h1 : half < B (ix3 g (0 : Fin 1) a) <;> by_cases h2 : ((-1 : ℝ) : EReal) < K (ix2 g a) <;>
    simp only [h1, h2, decide_true, decide_false, or_true, true_or, or_false, iff_true, iff_false] <;> decide

theorem positive_apply (g : Fin 4) (a : Fin 24564) :
    positive v0 v3 (ix3 g (0 : Fin 1) a) = 1#1 ↔ Pos (table (boxes v0 g) (anchors v3)) a := by
  unfold positive
  rw [bit_apply, top_apply, kept_apply, neg_one_lt_enc]
  rfl

omit v0 v3 in
/-- The one-hot rows the block builds from the first best object `N` and the number kept `K`. -/
theorem row_apply (N : FVec Ideal S4x1x24564 .f32) (K : FVec Ideal S4x24564 .f32) (g : Fin 4) (o : Fin 32)
    (a : Fin 24564) :
    k0_pay18 (F := Ideal) (k0_pay12 (F := Ideal)) N K (ix3 g o a) =
      if at' o = (if 0 ≤ K (ix2 g a) then K (ix2 g a) else N (ix3 g (0 : Fin 1) a)) then 1 else 0 := by
  rw [← word_obj]
  pointwise [k0_pay18, k0_pay12, k0_pay16]

/-- The matched object's one-hot row. -/
theorem onehot_apply (g : Fin 4) (o : Fin 32) (a : Fin 24564) :
    k0_pay18 (F := Ideal) (k0_pay12 (F := Ideal)) (nearest v0 v3) (kept v0 v3) (ix3 g o a) =
      if o = obj (table (boxes v0 g) (anchors v3)) a then 1 else 0 := by
  rw [row_apply, kept_apply, nearest_apply, pick_eq]
  simp only [at'_inj, Fin.val_inj]

omit v0 v3 in
theorem gather_apply (v0 : FVec Ideal S4x32x4 .f32) (v60 : Tab) (N : FVec Ideal S4x1x24564 .f32)
    (K : FVec Ideal S4x24564 .f32) (g d : Fin 4) (a : Fin 24564) :
    k0_pay19 (F := Ideal) v0 v60 N K (ix3 g d a) =
      ∑ o : Fin 32, v0 (ix3 g o d) * k0_pay18 (F := Ideal) v60 N K (ix3 g o a) := by
  unfold k0_pay19
  generalize k0_pay18 (F := Ideal) v60 N K = H
  pointwise

omit v0 v3 in
theorem gatherLabel_apply (v1 : FVec Ideal S4x1x32 .f32) (v60 : Tab) (N : FVec Ideal S4x1x24564 .f32)
    (K : FVec Ideal S4x24564 .f32) (g : Fin 4) (a : Fin 24564) :
    k0_pay20 (F := Ideal) (k0_pay1 v1) v60 N K (ix3 g (0 : Fin 1) a) =
      ∑ o : Fin 32, v1 (ix3 g (0 : Fin 1) o) * k0_pay18 (F := Ideal) v60 N K (ix3 g o a) := by
  unfold k0_pay20
  generalize k0_pay18 (F := Ideal) v60 N K = H
  pointwise [k0_pay1]

/-- The matched box. -/
theorem matched_apply (g d : Fin 4) (a : Fin 24564) :
    k0_pay19 (F := Ideal) v0 (k0_pay12 (F := Ideal)) (nearest v0 v3) (kept v0 v3) (ix3 g d a) =
      boxes v0 g (obj (table (boxes v0 g) (anchors v3)) a) d := by
  rw [gather_apply]
  simp only [onehot_apply, mul_ite, mul_one, mul_zero]
  rw [Finset.sum_ite_eq', if_pos (mem_univ _)]
  rfl

/-- The matched label. -/
theorem label_apply (v1 : FVec Ideal S4x1x32 .f32) (g : Fin 4) (a : Fin 24564) :
    k0_pay20 (F := Ideal) (k0_pay1 v1) (k0_pay12 (F := Ideal)) (nearest v0 v3) (kept v0 v3) (ix3 g (0 : Fin 1) a) =
      v1 (ix3 g (0 : Fin 1) (obj (table (boxes v0 g) (anchors v3)) a)) := by
  rw [gatherLabel_apply]
  simp only [onehot_apply, mul_ite, mul_one, mul_zero]
  rw [Finset.sum_ite_eq', if_pos (mem_univ _)]

end

end Cert.KernelIdeal.Image

end
-- ==== Proof.KernelLoss.lean ====
/- What the kernel's block puts into its first three results: an image's localisation loss, its number of
   positive anchors, and their classification loss. -/
module

public import proofs.«01_k».proof.Proof.KernelMatch

@[expose] public section

set_option maxRecDepth 16384

noncomputable section

namespace Cert.KernelIdeal.Image

open Idealize.ShloMosaic Idealize.ShloMosaic.TcCoe Cert.KernelIdeal Cert.KernelIdeal.Gen Cert.Mbl Finset

/-- An image's predicted offsets. -/
def offsets (v131 : FVec Ideal S4x4x24564 .f32) (g : Fin 4) : Fin 4 → Fin 24564 → EReal := fun d a => v131 (ix3 g d a)

/-- An image's scores. -/
def scores (v164 : FVec Ideal S4x21x24564 .f32) (g : Fin 4) : Fin 21 → Fin 24564 → EReal := fun c a => v164 (ix3 g c a)

theorem select_one {α : Type} (b : BitVec 1) (x y : α) : Scalar.select b x y = if b = 1#1 then x else y := rfl

theorem word_class (c : Fin 21) : (FloatOps.sitofp .f32 (BitVec.ofNat 32 c) : Ideal .f32) = at' c :=
  position (by omega)

/-- The mark as a vector. -/
theorem mark_of (B : FVec Ideal S4x1x24564 .f32) (K : FVec Ideal S4x24564 .f32) (g : Fin 4) (a : Fin 24564) :
    k0_pay25 (F := Ideal) B K (ix3 g (0 : Fin 1) a) = if k0_pay17 (F := Ideal) B K (ix3 g (0 : Fin 1) a) = 1#1 then 1 else 0 := by
  unfold k0_pay25
  generalize k0_pay17 (F := Ideal) B K = P
  pointwise
  rfl

theorem loc_of (v0 : FVec Ideal S4x32x4 .f32) (v4 : FVec Ideal S4x24564 .f32) (v60 : Tab)
    (N : FVec Ideal S4x1x24564 .f32) (K : FVec Ideal S4x24564 .f32) (M : FVec Ideal S4x1x24564 .f32)
    (v131 : FVec Ideal S4x4x24564 .f32) (G : FVec Ideal S4x4x24564 .f32) (g : Fin 4)
    (hG : k0_pay19 (F := Ideal) v0 v60 N K = G) :
    k0_pay30 (F := Ideal) (k0_pay24 v0 v4 v60 N K) M (k0_pay26 v131) (k0_pay27 v0 v4 v60 N K v131)
      (k0_pay28 v0 v4 v60 N K v131) (k0_pay29 v0 v4 v60 N K v131) (ix3 g (0 : Fin 1) (0 : Fin 1)) =
      ∑ k : Fin 2, ∑ a : Fin 24564,
        (smooth (v131 (ix3 g (lo k) a) - centre (fun d => G (ix3 g d a)) (fun d => v4 (ix2 d a)) k) +
          smooth (v131 (ix3 g (hi k) a) - size (fun d => G (ix3 g d a)) (fun d => v4 (ix2 d a)) k)) *
          M (ix3 g (0 : Fin 1) a) := by
  pointwise [k0_pay30, k0_pay24, k0_pay26, k0_pay27, k0_pay28, k0_pay29, k0_pay21, k0_pay22, k0_pay23, hG]
  rfl

theorem count_of (M : FVec Ideal S4x1x24564 .f32) (g : Fin 4) :
    k0_pay31 (F := Ideal) M (ix3 g (0 : Fin 1) (0 : Fin 1)) = ∑ a : Fin 24564, M (ix3 g (0 : Fin 1) a) := by
  pointwise [k0_pay31]

theorem conf_of (M L S : FVec Ideal S4x1x24564 .f32) (g : Fin 4) :
    k0_pay36 (F := Ideal) M L S (ix3 g (0 : Fin 1) (0 : Fin 1)) =
      ∑ a : Fin 24564, (L (ix3 g (0 : Fin 1) a) - S (ix3 g (0 : Fin 1) a)) * M (ix3 g (0 : Fin 1) a) := by
  pointwise [k0_pay36, k0_pay35]

theorem anchors_apply (v3 : FVec Ideal S4x24564 .f32) (d : Fin 4) (a : Fin 24564) :
    k0_pay2 (F := Ideal) v3 (ix2 d a) = anchors v3 d a := by
  pointwise [k0_pay2]
  rfl

theorem lse_of (v164 : FVec Ideal S4x21x24564 .f32) (g : Fin 4) (a : Fin 24564) :
    k0_pay33 (F := Ideal) v164 (ix3 g (0 : Fin 1) a) = Ideal.log (∑ c : Fin 21, Ideal.exp (scores v164 g c a)) := by
  pointwise [k0_pay33, k0_pay32]
  rfl

theorem pick_of (P : IVec S4x1x24564 1) (D : FVec Ideal S4x1x24564 .f32) (v164 : FVec Ideal S4x21x24564 .f32)
    (g : Fin 4) (a : Fin 24564) :
    k0_pay34 (F := Ideal) P D v164 (ix3 g (0 : Fin 1) a) =
      ∑ c : Fin 21, if at' c = (if P (ix3 g (0 : Fin 1) a) = 1#1 then D (ix3 g (0 : Fin 1) a) + 1 else 0) then
        scores v164 g c a else 0 := by
  simp only [← word_class]
  pointwise [k0_pay34, k0_pay32]
  rfl

section

variable (v0 : FVec Ideal S4x32x4 .f32) (v3 : FVec Ideal S4x24564 .f32) (v1 : FVec Ideal S4x1x32 .f32)
  (v131 : FVec Ideal S4x4x24564 .f32) (v164 : FVec Ideal S4x21x24564 .f32) (g : Fin 4)

/-- The block's vector of marks. -/
def markV : FVec Ideal S4x1x24564 .f32 := k0_pay25 (F := Ideal) (top v0 v3) (kept v0 v3)

theorem markV_eq (a : Fin 24564) : markV v0 v3 (ix3 g (0 : Fin 1) a) = mark (table (boxes v0 g) (anchors v3)) a := by
  rw [markV, mark_of, mark]
  change (if positive v0 v3 (ix3 g (0 : Fin 1) a) = 1#1 then (1 : EReal) else 0) = _
  by_cases hp : Pos (table (boxes v0 g) (anchors v3)) a
  · rw [if_pos ((positive_apply v0 v3 g a).2 hp), if_pos hp]
  · rw [if_neg fun h => hp ((positive_apply v0 v3 g a).1 h), if_neg hp]

/-- The block's vector of localisation losses. -/
def locV : FVec Ideal S4x1x1 .f32 :=
  k0_pay30 (F := Ideal) (k0_pay24 v0 (k0_pay2 v3) (k0_pay12 (F := Ideal)) (nearest v0 v3) (kept v0 v3)) (markV v0 v3)
    (k0_pay26 v131) (k0_pay27 v0 (k0_pay2 v3) (k0_pay12 (F := Ideal)) (nearest v0 v3) (kept v0 v3) v131)
    (k0_pay28 v0 (k0_pay2 v3) (k0_pay12 (F := Ideal)) (nearest v0 v3) (kept v0 v3) v131)
    (k0_pay29 v0 (k0_pay2 v3) (k0_pay12 (F := Ideal)) (nearest v0 v3) (kept v0 v3) v131)

/-- The first result: the localisation loss. -/
theorem loc_apply :
    locV v0 v3 v131 (ix3 g (0 : Fin 1) (0 : Fin 1)) =
      locLoss (table (boxes v0 g) (anchors v3)) (boxes v0 g) (anchors v3) (offsets v131 g) := by
  unfold locV
  rw [loc_of _ _ _ _ _ _ _ _ g rfl, locLoss]
  refine sum_congr rfl fun k _ => sum_congr rfl fun a _ => ?_
  simp only [markV_eq, matched_apply, anchors_apply]
  rfl

/-- The second result: the number of positive anchors. -/
theorem count_apply :
    k0_pay31 (F := Ideal) (markV v0 v3) (ix3 g (0 : Fin 1) (0 : Fin 1)) = posCount (table (boxes v0 g) (anchors v3)) := by
  rw [count_of, posCount]
  simp only [markV_eq]

/-- The vector of the scores picked. -/
def pickV : FVec Ideal S4x1x24564 .f32 :=
  k0_pay34 (F := Ideal) (positive v0 v3)
    (k0_pay20 (k0_pay1 v1) (k0_pay12 (F := Ideal)) (nearest v0 v3) (kept v0 v3)) v164

theorem pickV_eq (l : Fin 32 → Fin 20) (hl : ∀ o, v1 (ix3 g (0 : Fin 1) o) = at' (l o)) (a : Fin 24564) :
    pickV v0 v3 v1 v164 (ix3 g (0 : Fin 1) a) =
      scores v164 g (cls (table (boxes v0 g) (anchors v3)) l a) a := by
  rw [pickV, pick_of, label_apply, hl]
  have hc : (if positive v0 v3 (ix3 g (0 : Fin 1) a) = 1#1 then
      at' (l (obj (table (boxes v0 g) (anchors v3)) a)) + 1 else 0) =
      at' (cls (table (boxes v0 g) (anchors v3)) l a) := by
    unfold cls
    by_cases hp : Pos (table (boxes v0 g) (anchors v3)) a
    · rw [if_pos ((positive_apply v0 v3 g a).2 hp), if_pos hp, Fin.val_succ, at', at', ← EReal.coe_one, ← EReal.coe_add]
      push_cast; rfl
    · rw [if_neg fun h => hp ((positive_apply v0 v3 g a).1 h), if_neg hp]
      simp [at']
  rw [hc]
  simp only [at'_inj, Fin.val_inj]
  rw [sum_ite_eq', if_pos (mem_univ _)]

theorem clsLoss_eq (l : Fin 32 → Fin 20) (hl : ∀ o, v1 (ix3 g (0 : Fin 1) o) = at' (l o)) (a : Fin 24564) :
    k0_pay33 (F := Ideal) v164 (ix3 g (0 : Fin 1) a) - pickV v0 v3 v1 v164 (ix3 g (0 : Fin 1) a) =
      clsLoss (table (boxes v0 g) (anchors v3)) l (scores v164 g) a := by
  rw [pickV_eq v0 v3 v1 v164 g l hl, lse_of, clsLoss]

/-- The third result: the positive anchors' classification loss. -/
theorem conf_apply (l : Fin 32 → Fin 20) (hl : ∀ o, v1 (ix3 g (0 : Fin 1) o) = at' (l o)) :
    k0_pay36 (F := Ideal) (markV v0 v3) (k0_pay33 v164) (pickV v0 v3 v1 v164) (ix3 g (0 : Fin 1) (0 : Fin 1)) =
      confLoss (table (boxes v0 g) (anchors v3)) l (scores v164 g) := by
  rw [conf_of, confLoss]
  simp only [markV_eq, clsLoss_eq v0 v3 v1 v164 g l hl]

end

end Cert.KernelIdeal.Image

end
-- ==== Proof.Bisect.lean ====
/- Bisection for the hard negatives, over the reals. `v` are the losses, `k` how many are wanted. The search
   halves `[lo, hi]` keeping at least `k` losses above `lo` and fewer than `k` above `hi`, so that after `n`
   rounds `hi` is the `k`-th largest loss rounded up to the grid the halving makes. -/
module

public import Idealize.ShloMosaic.Lib.Pointwise
public import Mathlib.Algebra.Order.Floor.Ring
public import Mathlib.Tactic.FieldSimp
public import Mathlib.Tactic.Linarith
public import Mathlib.Tactic.Positivity

@[expose] public section

namespace Cert.Bisect

open Finset

variable {ι : Type*} [Fintype ι]

/-- How many losses lie above `x`. -/
noncomputable def above (v : ι → ℝ) (x : ℝ) : ℕ := (univ.filter fun a => x < v a).card

/-- One round: the middle replaces `lo` when at least `k` losses lie above it, otherwise `hi`. -/
noncomputable def round (v : ι → ℝ) (k : ℕ) (s : ℝ × ℝ) : ℝ × ℝ :=
  if k ≤ above v ((s.1 + s.2) * (1 / 2)) then ((s.1 + s.2) * (1 / 2), s.2) else (s.1, (s.1 + s.2) * (1 / 2))

/-- The search after `n` rounds from `[0, T]`. -/
noncomputable def search (v : ι → ℝ) (k : ℕ) (T : ℝ) (n : ℕ) : ℝ × ℝ := (round v k)^[n] (0, T)

theorem search_zero (v : ι → ℝ) (k : ℕ) (T : ℝ) : search v k T 0 = (0, T) := rfl

theorem search_succ (v : ι → ℝ) (k : ℕ) (T : ℝ) (n : ℕ) :
    search v k T (n + 1) = round v k (search v k T n) := by
  simp only [search, Function.iterate_succ_apply']

/-- Where the search stands after `n` rounds: two neighbours on the grid of step `T / 2 ^ n`, with at least
    `k` losses above the lower and fewer above the upper. -/
theorem search_grid (v : ι → ℝ) {k : ℕ} {T : ℝ} (h0 : k ≤ above v 0) (hT : above v T < k) (n : ℕ) :
    ∃ j : ℕ, search v k T n = (j * (T / 2 ^ n), (j + 1) * (T / 2 ^ n))
      ∧ k ≤ above v (j * (T / 2 ^ n)) ∧ above v ((j + 1) * (T / 2 ^ n)) < k := by
  induction n with
  | zero => exact ⟨0, by simp [search_zero], by simpa using h0, by simpa using hT⟩
  | succ n ih =>
    obtain ⟨j, hs, hl, hh⟩ := ih
    have hmid : ((j : ℝ) * (T / 2 ^ n) + (j + 1) * (T / 2 ^ n)) * (1 / 2) = (2 * j + 1) * (T / 2 ^ (n + 1)) := by
      rw [pow_succ]; field_simp; ring
    have hlo : (j : ℝ) * (T / 2 ^ n) = (2 * j) * (T / 2 ^ (n + 1)) := by rw [pow_succ]; field_simp
    have hhi : ((j : ℝ) + 1) * (T / 2 ^ n) = (2 * j + 1 + 1) * (T / 2 ^ (n + 1)) := by
      rw [pow_succ]; field_simp; ring
    rw [search_succ, hs, round]
    simp only [hmid]
    split
    · rename_i hk
      exact ⟨2 * j + 1, by push_cast; rw [hhi], by push_cast; exact hk, by push_cast; rw [← hhi]; exact hh⟩
    · rename_i hk
      exact ⟨2 * j, by push_cast; rw [hlo], by push_cast; rw [← hlo]; exact hl, by push_cast; exact not_le.1 hk⟩

/-- With nothing wanted the upper end never moves. -/
theorem search_none (v : ι → ℝ) (T : ℝ) (n : ℕ) : (search v 0 T n).2 = T := by
  induction n with
  | zero => rfl
  | succ n ih => rw [search_succ, round, if_pos (Nat.zero_le _)]; exact ih

/-- The lower end never falls below zero, and the upper end stays above it. -/
theorem search_nonneg (v : ι → ℝ) (k : ℕ) {T : ℝ} (hT : 0 < T) (n : ℕ) :
    0 ≤ (search v k T n).1 ∧ 0 < (search v k T n).2 := by
  induction n with
  | zero => exact ⟨le_rfl, hT⟩
  | succ n ih =>
    rw [search_succ, round]
    split
    · exact ⟨by dsimp only; linarith [ih.1, ih.2], ih.2⟩
    · exact ⟨ih.1, by dsimp only; linarith [ih.1, ih.2]⟩

/-- The rounding of the least selected loss up to the grid is the upper end the search ends on. -/
theorem level_eq (v : ι → ℝ) {k : ℕ} {T : ℝ} (hTpos : 0 < T) (h0 : k ≤ above v 0) (hT : above v T < k)
    (S : Finset ι) (hS : S.card = k) (hdom : ∀ a ∈ S, ∀ b ∉ S, v b ≤ v a)
    {t : ℝ} (htS : ∃ a ∈ S, v a = t) (ht : ∀ a ∈ S, t ≤ v a) (n : ℕ) :
    (⌈t / (T / 2 ^ n)⌉ : ℝ) * (T / 2 ^ n) = (search v k T n).2 ∧ t ≤ (search v k T n).2 := by
  obtain ⟨j, hs, hl, hh⟩ := search_grid v h0 hT n
  have hd : 0 < T / 2 ^ n := by positivity
  obtain ⟨a₀, ha₀, hat⟩ := htS
  have hlow : (j : ℝ) * (T / 2 ^ n) < t := by
    by_contra hc
    have hc := not_lt.1 hc
    classical
    have hsub : (univ.filter fun a => (j : ℝ) * (T / 2 ^ n) < v a) ⊆ S.erase a₀ := by
      intro b hb
      have hb := (mem_filter.1 hb).2
      refine mem_erase.2 ⟨fun hba => ?_, ?_⟩
      · rw [hba, hat] at hb; exact absurd hb (not_lt.2 hc)
      · by_contra hbS
        have := hdom a₀ ha₀ b hbS
        rw [hat] at this
        linarith
    have h1 := card_le_card hsub
    have h2 := card_erase_lt_of_mem ha₀
    rw [hS] at h2
    have h3 : k ≤ (univ.filter fun a => (j : ℝ) * (T / 2 ^ n) < v a).card := hl
    omega
  have hupp : t ≤ ((j : ℝ) + 1) * (T / 2 ^ n) := by
    by_contra hc
    have hc := not_le.1 hc
    have hsub : S ⊆ univ.filter fun a => ((j : ℝ) + 1) * (T / 2 ^ n) < v a := fun b hb =>
      mem_filter.2 ⟨mem_univ _, lt_of_lt_of_le hc (ht b hb)⟩
    have h1 := card_le_card hsub
    have h3 : (univ.filter fun a => ((j : ℝ) + 1) * (T / 2 ^ n) < v a).card < k := hh
    omega
  have hceil : ⌈t / (T / 2 ^ n)⌉ = (j : ℤ) + 1 := by
    rw [Int.ceil_eq_iff]
    push_cast
    constructor
    · rw [lt_div_iff₀ hd]; linarith
    · rw [div_le_iff₀ hd]; exact hupp
  rw [hs, hceil]
  exact ⟨by push_cast; ring, hupp⟩

/-- What the kernel adds up, the losses above `hi` and `hi` itself for the rest of the `k`, is the sum of the
    selected losses, each raised to `hi`. -/
theorem sum_eq (v : ι → ℝ) {k : ℕ} (S : Finset ι) (hS : S.card = k) (hdom : ∀ a ∈ S, ∀ b ∉ S, v b ≤ v a)
    {hi : ℝ} (hle : ∃ a ∈ S, v a ≤ hi) :
    (∑ a, if hi < v a then v a else 0) + ((k : ℝ) - above v hi) * hi = ∑ a ∈ S, max (v a) hi := by
  classical
  obtain ⟨a₀, ha₀, hat⟩ := hle
  have hsub : (univ.filter fun a => hi < v a) ⊆ S := by
    intro b hb
    have hb := (mem_filter.1 hb).2
    by_contra hbS
    have := hdom a₀ ha₀ b hbS
    linarith
  rw [← sum_filter, ← sum_sdiff hsub]
  have h1 : ∑ a ∈ univ.filter (fun a => hi < v a), max (v a) hi = ∑ a ∈ univ.filter (fun a => hi < v a), v a :=
    sum_congr rfl fun a ha => max_eq_left (le_of_lt (mem_filter.1 ha).2)
  have h2 : ∑ a ∈ S \ univ.filter (fun a => hi < v a), max (v a) hi
      = ∑ _a ∈ S \ univ.filter (fun a => hi < v a), hi := by
    refine sum_congr rfl fun a ha => max_eq_right ?_
    have := (mem_sdiff.1 ha).2
    by_contra hc
    exact this (mem_filter.2 ⟨mem_univ _, not_le.1 hc⟩)
  rw [h1, h2, sum_const, card_sdiff_of_subset hsub, nsmul_eq_mul, Nat.cast_sub (card_le_card hsub), hS]
  unfold above
  ring

/-- The hard-negative sum: nothing when nothing is wanted, otherwise the selected losses raised to the grid
    point at or above the least of them. -/
theorem total_eq (v : ι → ℝ) (hv : ∀ a, 0 ≤ v a) {k : ℕ} {T : ℝ} (hTpos : 0 < T) (hvT : ∀ a, v a < T)
    (h0 : k ≤ above v 0) (S : Finset ι) (hS : S.card = k) (hdom : ∀ a ∈ S, ∀ b ∉ S, v b ≤ v a)
    {t : ℝ} (htS : S.Nonempty → ∃ a ∈ S, v a = t) (ht : ∀ a ∈ S, t ≤ v a) (n : ℕ) :
    (∑ a, if (search v k T n).2 < v a then v a else 0)
        + ((k : ℝ) - above v (search v k T n).2) * (search v k T n).2
      = ∑ a ∈ S, max (v a) ((⌈t / (T / 2 ^ n)⌉ : ℝ) * (T / 2 ^ n)) := by
  have hT0 : above v T = 0 := by
    unfold above
    rw [card_eq_zero, filter_eq_empty_iff]
    exact fun a _ => not_lt.2 (le_of_lt (hvT a))
  rcases Nat.eq_zero_or_pos k with rfl | hk
  · rw [search_none, card_eq_zero.1 hS, sum_empty, hT0]
    simp only [Nat.cast_zero, sub_zero, zero_mul, add_zero]
    exact sum_eq_zero fun a _ => if_neg (not_lt.2 (le_of_lt (hvT a)))
  · have hne : S.Nonempty := card_pos.1 (hS ▸ hk)
    obtain ⟨hl, hle⟩ := level_eq v hTpos h0 (hT0 ▸ hk) S hS hdom (htS hne) ht n
    rw [hl]
    obtain ⟨a, ha, hat⟩ := htS hne
    exact sum_eq v S hS hdom ⟨a, ha, hat ▸ hle⟩

end Cert.Bisect

end
-- ==== Proof.Reals.lean ====
/- Extended reals that are reals: sums, maxima, counts. -/
module

public import proofs.«01_k».proof.Proof.Spec
public import proofs.«01_k».proof.Proof.Bisect

@[expose] public section

noncomputable section

namespace Cert.Mbl

open Finset Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A real carried along a branch. -/
theorem coe_ite (p : Prop) [Decidable p] (x y : ℝ) : ((if p then x else y : ℝ) : EReal) = if p then (x : EReal) else y := by
  split <;> rfl

theorem coe_min (x y : ℝ) : ((min x y : ℝ) : EReal) = min (x : EReal) y := EReal.coe_strictMono.monotone.map_min

theorem coe_max (x y : ℝ) : ((max x y : ℝ) : EReal) = max (x : EReal) y := EReal.coe_strictMono.monotone.map_max

/-- Counting by a sum of ones. -/
theorem sum_above {ι : Type*} [Fintype ι] (v : ι → ℝ) (x : ℝ) :
    (∑ a, if x < v a then (1 : ℝ) else 0) = Bisect.above v x := by
  rw [sum_boole, Bisect.above]

open Classical in
/-- The positive anchors, counted. -/
def number (q : Fin 32 → Fin 24564 → EReal) : ℕ := (univ.filter fun a => Pos q a).card

theorem posCount_eq (q : Fin 32 → Fin 24564 → EReal) : posCount q = at' (number q) := by
  classical
  have : posCount q = ∑ a : Fin 24564, ((if Pos q a then (1 : ℝ) else 0 : ℝ) : EReal) :=
    sum_congr rfl fun a _ => by rw [mark, coe_ite]; rfl
  rw [this, ← coe_sum, sum_boole, number, at']

theorem number_le (q : Fin 32 → Fin 24564 → EReal) : number q ≤ 24564 := by
  classical
  exact (card_le_univ _).trans (by rw [Fintype.card_fin])

/-- The number of negative anchors that count: three for each positive one, as far as there are any. -/
def quota (n : ℕ) : ℕ := min (3 * n) (24564 - n)

theorem quota_eq {n : ℕ} (h : n ≤ 24564) :
    min (((3 : ℝ) : EReal) * at' n) (((24564 : ℝ) : EReal) - at' n) = at' (quota n) := by
  rw [at', ← EReal.coe_mul, ← EReal.coe_sub, ← coe_min, at', quota]
  congr 1
  rw [Nat.cast_min, Nat.cast_sub h]; norm_num

/-! Losses of finite scores. -/

section

variable (q : Fin 32 → Fin 24564 → EReal) (l : Fin 32 → Fin 20) (s : Fin 21 → Fin 24564 → EReal)

/-- A classification loss of finite scores is a positive real: other classes' exponentials count too. -/
theorem clsLoss_pos (hs : ∀ c a, ∃ x : ℝ, s c a = (x : EReal)) (a : Fin 24564) :
    ∃ x : ℝ, clsLoss q l s a = (x : EReal) ∧ 0 < x := by
  choose x hx using fun c => hs c a
  have e : clsLoss q l s a = ((Real.log (∑ c, Real.exp (x c)) - x (cls q l a) : ℝ) : EReal) := by
    unfold clsLoss
    simp only [hx, Ideal.exp_coe]
    rw [← coe_sum, Ideal.log_coe, if_neg, EReal.coe_sub]
    exact not_le.2 (sum_pos (fun c _ => Real.exp_pos _) ⟨0, mem_univ _⟩)
  refine ⟨_, e, sub_pos.2 ?_⟩
  rw [Real.lt_log_iff_exp_lt (sum_pos (fun c _ => Real.exp_pos _) ⟨0, mem_univ _⟩)]
  obtain ⟨c', hc'⟩ : ∃ c' : Fin 21, c' ≠ cls q l a := exists_ne _
  exact single_lt_sum hc' (mem_univ _) (mem_univ _) (Real.exp_pos _) fun _ _ _ => (Real.exp_pos _).le

/-- The mined losses as reals. -/
def minedR (a : Fin 24564) : ℝ := (mined q l s a).toReal

theorem minedR_eq (hs : ∀ c a, ∃ x : ℝ, s c a = (x : EReal)) (a : Fin 24564) :
    mined q l s a = (minedR q l s a : EReal) := by
  unfold minedR mined
  split
  · rfl
  · obtain ⟨x, hx, -⟩ := clsLoss_pos q l s hs a
    rw [hx]; rfl

theorem minedR_nonneg (hs : ∀ c a, ∃ x : ℝ, s c a = (x : EReal)) (a : Fin 24564) : 0 ≤ minedR q l s a := by
  unfold minedR mined
  split
  · exact le_rfl
  · obtain ⟨x, hx, h0⟩ := clsLoss_pos q l s hs a
    rw [hx]; exact h0.le

theorem minedR_pos (hs : ∀ c a, ∃ x : ℝ, s c a = (x : EReal)) {a : Fin 24564} (h : ¬ Pos q a) : 0 < minedR q l s a := by
  unfold minedR mined
  rw [if_neg h]
  obtain ⟨x, hx, h0⟩ := clsLoss_pos q l s hs a
  rw [hx]; exact h0

/-- There are at least as many losses above zero as are wanted. -/
theorem quota_le_above (hs : ∀ c a, ∃ x : ℝ, s c a = (x : EReal)) :
    quota (number q) ≤ Bisect.above (minedR q l s) 0 := by
  classical
  have h1 : 24564 - number q ≤ Bisect.above (minedR q l s) 0 := by
    have hsub : (univ.filter fun a => ¬ Pos q a) ⊆ univ.filter fun a => 0 < minedR q l s a := fun a ha =>
      mem_filter.2 ⟨mem_univ _, minedR_pos q l s hs (mem_filter.1 ha).2⟩
    have hc := card_le_card hsub
    have hsum := card_filter_add_card_filter_not (s := (univ : Finset (Fin 24564))) (fun a => Pos q a)
    rw [card_univ, Fintype.card_fin] at hsum
    have hn : number q = (univ.filter fun a => Pos q a).card := rfl
    have hab : Bisect.above (minedR q l s) 0 = (univ.filter fun a => 0 < minedR q l s a).card := rfl
    rw [hab, hn]
    omega
  exact (min_le_right _ _).trans h1

end

/-- The largest of the losses. -/
def peak (v : Fin 24564 → ℝ) : ℝ := univ.sup' ⟨⟨0, by omega⟩, mem_univ _⟩ v

theorem le_peak (v : Fin 24564 → ℝ) (a : Fin 24564) : v a ≤ peak v := le_sup' v (mem_univ a)

theorem peak_eq (v : Fin 24564 → ℝ) : (univ.sup fun a => (v a : EReal)) = (peak v : EReal) := by
  obtain ⟨a, -, ha⟩ := exists_mem_eq_sup' (s := (univ : Finset (Fin 24564))) ⟨⟨0, by omega⟩, mem_univ _⟩ v
  refine le_antisymm (Finset.sup_le fun b _ => EReal.coe_le_coe_iff.2 (le_peak v b)) ?_
  have h : peak v = v a := ha
  rw [h]
  exact le_sup (f := fun a => (v a : EReal)) (mem_univ a)

/-- The sum of the `k` largest losses as the bisection finds it: those above the threshold, and the threshold for
    each of the others. -/
def hard (v : Fin 24564 → ℝ) (k : ℕ) : ℝ :=
  (∑ a, if (Bisect.search v k (peak v + 1) 42).2 < v a then v a else 0) +
    ((k : ℝ) - Bisect.above v (Bisect.search v k (peak v + 1) 42).2) * (Bisect.search v k (peak v + 1) 42).2

end Cert.Mbl

end
-- ==== Proof.KernelNeg.lean ====
/- What the kernel's block puts into its last result: the sum of the largest losses of negative anchors, found by
   bisection. The losses lie on a grid of 192 rows of 128, filled up with zeros. -/
module

public import proofs.«01_k».proof.Proof.KernelLoss
public import proofs.«01_k».proof.Proof.Reals

@[expose] public section

set_option maxRecDepth 16384

noncomputable section

namespace Cert.KernelIdeal.Image

open Idealize.ShloMosaic Idealize.ShloMosaic.TcCoe Cert.KernelIdeal Cert.KernelIdeal.Gen Cert.Mbl Finset

/-! The grid. -/

/-- The losses `v` on the grid. -/
def spread (v : Fin 24564 → ℝ) (r : Fin 192) (l : Fin 128) : ℝ :=
  if h : (r : ℕ) * 128 + l < 24564 then v ⟨(r : ℕ) * 128 + l, h⟩ else 0

/-- A sum over the grid of what vanishes at zero is the sum over the anchors. -/
theorem sum_spread (v : Fin 24564 → ℝ) (φ : ℝ → ℝ) (h0 : φ 0 = 0) :
    ∑ r : Fin 192, ∑ l : Fin 128, φ (spread v r l) = ∑ a, φ (v a) := by
  let f : Fin 24576 → ℝ := fun i => φ (if h : (i : ℕ) < 24564 then v ⟨i, h⟩ else 0)
  have h := Fin.sum_univ_tiles 192 128 rfl f
  rw [Fin.sum_univ_two_halves 24564 12 rfl f] at h
  refine h.symm.trans ?_
  have h2 : ∑ k : Fin 12, f ⟨24564 + k.val, by have := k.isLt; omega⟩ = 0 :=
    sum_eq_zero fun k _ => by
      change φ (if h : 24564 + k.val < 24564 then _ else 0) = 0
      rw [dif_neg (by omega), h0]
  rw [h2, add_zero]
  refine sum_congr rfl fun a _ => ?_
  change φ (if h : a.val < 24564 then _ else 0) = _
  rw [dif_pos a.isLt]

/-- The largest loss on the grid is the largest loss. -/
theorem sup_spread (v : Fin 24564 → ℝ) (h0 : ∀ a, 0 ≤ v a) :
    (univ.sup fun r : Fin 192 => univ.sup fun l : Fin 128 => (spread v r l : EReal)) =
      univ.sup fun a => (v a : EReal) := by
  have hle : ∀ a, (v a : EReal) ≤ univ.sup fun a => (v a : EReal) := fun a =>
    le_sup (f := fun a => (v a : EReal)) (mem_univ a)
  have hge : ∀ r l, (spread v r l : EReal) ≤
      univ.sup fun r : Fin 192 => univ.sup fun l : Fin 128 => (spread v r l : EReal) := fun r l =>
    (le_sup (f := fun l : Fin 128 => (spread v r l : EReal)) (mem_univ l)).trans
      (le_sup (f := fun r : Fin 192 => univ.sup fun l : Fin 128 => (spread v r l : EReal)) (mem_univ r))
  refine le_antisymm (Finset.sup_le fun r _ => Finset.sup_le fun l _ => ?_) (Finset.sup_le fun a _ => ?_)
  · by_cases h : (r : ℕ) * 128 + l < 24564
    · rw [spread, dif_pos h]; exact hle _
    · rw [spread, dif_neg h]; exact (EReal.coe_nonneg.2 (h0 ⟨0, by omega⟩)).trans (hle _)
  · have ha := a.isLt
    have hm : (a : ℕ) / 128 * 128 + (a : ℕ) % 128 = a := Nat.div_add_mod' a 128
    have e : spread v ⟨a / 128, by omega⟩ ⟨a % 128, by omega⟩ = v a := by
      unfold spread
      rw [dif_pos (by simp only [hm]; exact ha)]
      exact congrArg v (Fin.ext hm)
    rw [← e]
    exact hge _ _

/-! The block's vectors at an index. -/

variable (P : IVec S4x1x24564 1) (C : FVec Ideal S4x1x1 .f32) (L S : FVec Ideal S4x1x24564 .f32) (g : Fin 4)

theorem grid_of (r : Fin 192) (l : Fin 128) : k0_pay38 (F := Ideal) P L S (ix3 g r l) =
    if h : (r : ℕ) * 128 + l < 24564 then
      (if P (ix3 g (0 : Fin 1) ⟨(r : ℕ) * 128 + l, h⟩) = 1#1 then 0 else
        L (ix3 g (0 : Fin 1) ⟨(r : ℕ) * 128 + l, h⟩) - S (ix3 g (0 : Fin 1) ⟨(r : ℕ) * 128 + l, h⟩)) else 0 := by
  pointwise [k0_pay38, k0_pay35]
  rfl

theorem highest_of : k0_pay39 (F := Ideal) P L S (ix3 g (0 : Fin 1) (0 : Fin 1)) =
    (univ.sup fun r : Fin 192 => univ.sup fun l : Fin 128 => k0_pay38 (F := Ideal) P L S (ix3 g r l)) + 1 := by
  unfold k0_pay39
  generalize k0_pay38 (F := Ideal) P L S = V
  pointwise
  simp only [← fold_max_bot]

theorem mid_of (a b : FVec Ideal S4x1x1 .f32) (i : S4x1x1.Idx) :
    k0_pay41 (F := Ideal) a b i = (a i + b i) * half := by
  pointwise [k0_pay41]
  rfl

theorem test_of (a b : FVec Ideal S4x1x1 .f32) :
    k0_pay42 (F := Ideal) P C L S a b (ix3 g (0 : Fin 1) (0 : Fin 1)) = 1#1 ↔
      min (((3 : ℝ) : EReal) * C (ix3 g (0 : Fin 1) (0 : Fin 1)))
          (((24564 : ℝ) : EReal) - C (ix3 g (0 : Fin 1) (0 : Fin 1))) ≤
        ∑ r : Fin 192, ∑ l : Fin 128,
          if (a (ix3 g (0 : Fin 1) (0 : Fin 1)) + b (ix3 g (0 : Fin 1) (0 : Fin 1))) * half
            < k0_pay38 (F := Ideal) P L S (ix3 g r l) then 1 else 0 := by
  rw [← word_three, ← word_anchors]
  simp only [← mid_of]
  unfold k0_pay42
  generalize k0_pay38 (F := Ideal) P L S = V
  generalize k0_pay41 (F := Ideal) a b = M
  pointwise [k0_pay37]
  by_cases h : min (Ideal.ofBits FTy.f32 0x40400000#32 * C (ix3 g (0 : Fin 1) (0 : Fin 1)))
      (Ideal.ofBits FTy.f32 0x46BFE800#32 - C (ix3 g (0 : Fin 1) (0 : Fin 1))) ≤
      ∑ r : Fin 192, ∑ l : Fin 128, if M (ix3 g (0 : Fin 1) (0 : Fin 1)) < V (ix3 g r l) then 1 else 0
  · rw [decide_eq_true h]; exact iff_of_true rfl h
  · rw [decide_eq_false h]; exact iff_of_false (by decide) h

theorem lower_of (a b : FVec Ideal S4x1x1 .f32) (i : S4x1x1.Idx) : k0_pay43 (F := Ideal) P C L S a b i =
    if k0_pay42 (F := Ideal) P C L S a b i = 1#1 then (a i + b i) * half else a i := by
  rw [← mid_of]; rfl

theorem upper_of (a b : FVec Ideal S4x1x1 .f32) (i : S4x1x1.Idx) : k0_pay44 (F := Ideal) P C L S a b i =
    if k0_pay42 (F := Ideal) P C L S a b i = 1#1 then b i else (a i + b i) * half := by
  rw [← mid_of]; rfl

theorem rest_of (b : FVec Ideal S4x1x1 .f32) :
    k0_pay45 (F := Ideal) P C L S b (ix3 g (0 : Fin 1) (0 : Fin 1)) =
      (∑ r : Fin 192, ∑ l : Fin 128, if b (ix3 g (0 : Fin 1) (0 : Fin 1)) < k0_pay38 (F := Ideal) P L S (ix3 g r l) then
          k0_pay38 (F := Ideal) P L S (ix3 g r l) else 0) +
        (min (((3 : ℝ) : EReal) * C (ix3 g (0 : Fin 1) (0 : Fin 1)))
            (((24564 : ℝ) : EReal) - C (ix3 g (0 : Fin 1) (0 : Fin 1))) -
          ∑ r : Fin 192, ∑ l : Fin 128,
            if b (ix3 g (0 : Fin 1) (0 : Fin 1)) < k0_pay38 (F := Ideal) P L S (ix3 g r l) then 1 else 0) *
          b (ix3 g (0 : Fin 1) (0 : Fin 1)) := by
  rw [← word_three, ← word_anchors]
  unfold k0_pay45
  generalize k0_pay38 (F := Ideal) P L S = V
  pointwise [k0_pay37]

/-! The search. -/

section

variable {P C L S g} (v : Fin 24564 → ℝ) (h0 : ∀ a, 0 ≤ v a)
  (hv : ∀ a, (if P (ix3 g (0 : Fin 1) a) = 1#1 then 0 else L (ix3 g (0 : Fin 1) a) - S (ix3 g (0 : Fin 1) a)) = (v a : EReal))
  {n : ℕ} (hn : n ≤ 24564) (hC : C (ix3 g (0 : Fin 1) (0 : Fin 1)) = at' n)

include hv in
theorem grid_eq (r : Fin 192) (l : Fin 128) : k0_pay38 (F := Ideal) P L S (ix3 g r l) = (spread v r l : EReal) := by
  rw [grid_of, spread]
  split
  · exact hv _
  · exact EReal.coe_zero.symm

include hv in
/-- How many losses lie above a threshold, as the block counts them. -/
theorem above_eq {x : ℝ} (hx : 0 ≤ x) :
    (∑ r : Fin 192, ∑ l : Fin 128, if (x : EReal) < k0_pay38 (F := Ideal) P L S (ix3 g r l) then (1 : EReal) else 0) =
      at' (Bisect.above v x) := by
  have e : ∀ r : Fin 192, (∑ l : Fin 128, if (x : EReal) < k0_pay38 (F := Ideal) P L S (ix3 g r l) then (1 : EReal) else 0) =
      ((∑ l : Fin 128, if x < spread v r l then (1 : ℝ) else 0 : ℝ) : EReal) := fun r => by
    rw [coe_sum]
    refine sum_congr rfl fun l _ => ?_
    rw [grid_eq v hv, coe_ite]
    exact if_congr EReal.coe_lt_coe_iff rfl rfl
  rw [sum_congr rfl fun r _ => e r, ← coe_sum, at', ← sum_above]
  exact congrArg _ (sum_spread v (fun y => if x < y then 1 else 0) (if_neg (not_lt.2 hx)))

include hv in
/-- The losses above a threshold, as the block sums them. -/
theorem total_eq {x : ℝ} (hx : 0 ≤ x) :
    (∑ r : Fin 192, ∑ l : Fin 128, if (x : EReal) < k0_pay38 (F := Ideal) P L S (ix3 g r l) then
        k0_pay38 (F := Ideal) P L S (ix3 g r l) else 0) = ((∑ a, if x < v a then v a else 0 : ℝ) : EReal) := by
  have e : ∀ r : Fin 192, (∑ l : Fin 128, if (x : EReal) < k0_pay38 (F := Ideal) P L S (ix3 g r l) then
        k0_pay38 (F := Ideal) P L S (ix3 g r l) else 0) =
      ((∑ l : Fin 128, if x < spread v r l then spread v r l else 0 : ℝ) : EReal) := fun r => by
    rw [coe_sum]
    refine sum_congr rfl fun l _ => ?_
    rw [grid_eq v hv, coe_ite]
    exact if_congr EReal.coe_lt_coe_iff rfl rfl
  rw [sum_congr rfl fun r _ => e r, ← coe_sum]
  exact congrArg _ (sum_spread v (fun y => if x < y then y else 0) (if_neg (not_lt.2 hx)))

include hv h0 in
/-- The search starts at one more than the largest loss. -/
theorem highest_eq : k0_pay39 (F := Ideal) P L S (ix3 g (0 : Fin 1) (0 : Fin 1)) = (univ.sup fun a => (v a : EReal)) + 1 := by
  rw [highest_of, ← sup_spread v h0]
  simp only [grid_eq v hv]

include hv hn hC in
/-- One round of the search. -/
theorem round_eq {a b : FVec Ideal S4x1x1 .f32} {s : ℝ × ℝ} (h1 : 0 ≤ s.1) (h2 : 0 ≤ s.2)
    (ha : a (ix3 g (0 : Fin 1) (0 : Fin 1)) = (s.1 : EReal)) (hb : b (ix3 g (0 : Fin 1) (0 : Fin 1)) = (s.2 : EReal)) :
    k0_pay43 (F := Ideal) P C L S a b (ix3 g (0 : Fin 1) (0 : Fin 1)) = ((Bisect.round v (quota n) s).1 : EReal) ∧
      k0_pay44 (F := Ideal) P C L S a b (ix3 g (0 : Fin 1) (0 : Fin 1)) = ((Bisect.round v (quota n) s).2 : EReal) := by
  have hm : (a (ix3 g (0 : Fin 1) (0 : Fin 1)) + b (ix3 g (0 : Fin 1) (0 : Fin 1))) * half =
      (((s.1 + s.2) * (1 / 2) : ℝ) : EReal) := by
    rw [ha, hb, half, word_half, ← EReal.coe_add, ← EReal.coe_mul]
  have ht := test_of P C L S g a b
  rw [hm, hC, quota_eq hn, above_eq v hv (by positivity), at'_le] at ht
  rw [lower_of, upper_of, hm, ha, hb, Bisect.round]
  by_cases h : quota n ≤ Bisect.above v ((s.1 + s.2) * (1 / 2))
  · rw [if_pos (ht.2 h), if_pos (ht.2 h), if_pos h]; exact ⟨rfl, rfl⟩
  · rw [if_neg fun e => h (ht.1 e), if_neg fun e => h (ht.1 e), if_neg h]; exact ⟨rfl, rfl⟩

include hv hn hC in
/-- The search after some rounds. -/
theorem rounds_eq {T : ℝ} (hT : 0 < T) {ι : Type} (ks : List ι) : ∀ (j : ℕ) (a b : FVec Ideal S4x1x1 .f32),
    a (ix3 g (0 : Fin 1) (0 : Fin 1)) = ((Bisect.search v (quota n) T j).1 : EReal) →
    b (ix3 g (0 : Fin 1) (0 : Fin 1)) = ((Bisect.search v (quota n) T j).2 : EReal) →
    (ks.foldl (fun (x : FVec Ideal S4x1x1 .f32 × FVec Ideal S4x1x1 .f32) _ =>
      (k0_pay43 (F := Ideal) P C L S x.1 x.2, k0_pay44 (F := Ideal) P C L S x.1 x.2)) (a, b)).2
        (ix3 g (0 : Fin 1) (0 : Fin 1)) = ((Bisect.search v (quota n) T (j + ks.length)).2 : EReal) := by
  induction ks with
  | nil => intro j a b _ hb; exact hb
  | cons k ks ih =>
    intro j a b ha hb
    have hp := Bisect.search_nonneg v (quota n) hT j
    have h := round_eq v hv hn hC hp.1 hp.2.le ha hb
    rw [← Bisect.search_succ] at h
    rw [List.foldl_cons, List.length_cons, Nat.add_comm ks.length, ← Nat.add_assoc]
    exact ih (j + 1) _ _ h.1 h.2

include hv h0 hn hC in
/-- The block's sum of the largest losses. -/
theorem neg_apply {N : ℕ} (hN : N = 42) :
    k0_pay45 (F := Ideal) P C L S (Scf.fold (n := N) (fun _ (x : FVec Ideal S4x1x1 .f32 × FVec Ideal S4x1x1 .f32) =>
      (k0_pay43 (F := Ideal) P C L S x.1 x.2, k0_pay44 (F := Ideal) P C L S x.1 x.2))
        (k0_pay40 (F := Ideal), k0_pay39 (F := Ideal) P L S)).2 (ix3 g (0 : Fin 1) (0 : Fin 1)) =
      (hard v (quota n) : EReal) := by
  have hT : 0 < peak v + 1 := by linarith [h0 ⟨0, by omega⟩, le_peak v ⟨0, by omega⟩]
  have hr := rounds_eq v hv hn hC hT (List.finRange N) 0 (k0_pay40 (F := Ideal)) (k0_pay39 (F := Ideal) P L S)
    (by rw [Bisect.search_zero]; pointwise [k0_pay40]; rfl)
    (by rw [Bisect.search_zero, highest_eq v h0 hv, peak_eq, EReal.coe_add]; rfl)
  rw [List.length_finRange, Nat.zero_add, hN] at hr
  rw [Scf.fold_eq]
  subst hN
  have hp := (Bisect.search_nonneg v (quota n) hT 42).2.le
  rw [rest_of, hr, hC, quota_eq hn, total_eq v hv hp, above_eq v hv hp, at', at', ← EReal.coe_sub, ← EReal.coe_mul,
    ← EReal.coe_add, hard]

end

end Cert.KernelIdeal.Image

end
-- ==== Proof.KernelBlock.lean ====
/- What the kernel leaves at each grid point: the four results of each of the block's images. -/
module
public import proofs.«01_k».proof.Proof.Gen.KernelIdeal.Frame
public import Idealize.ShloMosaic.Lib.Pipeline.ValueKit
public import proofs.«01_k».proof.Proof.KernelNeg

@[expose] public section

set_option maxRecDepth 16384
noncomputable section
namespace Cert.KernelIdeal.Image

open Idealize.ShloMosaic Idealize.ShloMosaic.TcCoe Idealize.SL.Sem
open Idealize.ShloMosaic.Pipeline (Dat)
open Cert.KernelIdeal Cert.KernelIdeal.Gen Cert.Mbl

variable (m : (ℓ : Loc nD τ sig) → Buf (Elt Ideal) ℓ) (c : Dev nD) (t : Fin cfg0.N) (g : Fin 4)

/-- The table of overlaps of image `g` of block `t`. -/
def tableOf : Fin 32 → Fin 24564 → EReal := table (boxes (iblk m c 2 t) g) (anchors (iblk m c 4 t))

theorem after5 : (dats m 0 c).after 5 t (ix3 g (0 : Fin 1) (0 : Fin 1)) =
    locLoss (tableOf m c t g) (boxes (iblk m c 2 t) g) (anchors (iblk m c 4 t)) (offsets (iblk m c 0 t) g) := by
  have e : (dats m 0 c).after 5 t = locV (iblk m c 2 t) (iblk m c 4 t) (iblk m c 0 t) := by
    rw [after0_5]
    frame_out
    rfl
  exact (congrFun e _).trans (loc_apply (iblk m c 2 t) (iblk m c 4 t) (iblk m c 0 t) g)

theorem after6 : (dats m 0 c).after 6 t (ix3 g (0 : Fin 1) (0 : Fin 1)) = posCount (tableOf m c t g) := by
  rw [after0_6]
  frame_out
  exact count_apply (iblk m c 2 t) (iblk m c 4 t) g

variable (l : Fin 32 → Fin 20) (hl : ∀ o, iblk m c 3 t (ix3 g (0 : Fin 1) o) = at' (l o))

include hl

theorem after7 : (dats m 0 c).after 7 t (ix3 g (0 : Fin 1) (0 : Fin 1)) =
    confLoss (tableOf m c t g) l (scores (iblk m c 1 t) g) := by
  rw [after0_7]
  frame_out
  exact conf_apply (iblk m c 2 t) (iblk m c 4 t) (iblk m c 3 t) (iblk m c 1 t) g l hl

theorem after8 (hs : ∀ k a, ∃ x : ℝ, scores (iblk m c 1 t) g k a = (x : EReal)) :
    (dats m 0 c).after 8 t (ix3 g (0 : Fin 1) (0 : Fin 1)) =
      (hard (minedR (tableOf m c t g) l (scores (iblk m c 1 t) g)) (quota (number (tableOf m c t g))) : EReal) := by
  rw [after0_8]
  frame_out
  refine neg_apply (P := positive (iblk m c 2 t) (iblk m c 4 t)) (C := k0_pay31 (markV (iblk m c 2 t) (iblk m c 4 t)))
    (L := k0_pay33 (iblk m c 1 t)) (S := pickV (iblk m c 2 t) (iblk m c 4 t) (iblk m c 3 t) (iblk m c 1 t)) _
    (minedR_nonneg _ l _ hs) (fun a => ?_) (number_le _) ?_ ?_
  · rw [← minedR_eq _ l _ hs, clsLoss_eq _ _ _ _ g l hl, mined]
    by_cases hp : Pos (tableOf m c t g) a
    · rw [if_pos hp, if_pos ((positive_apply _ _ g a).2 hp)]
    · rw [if_neg hp, if_neg fun h => hp ((positive_apply _ _ g a).1 h)]; rfl
  · rw [count_apply, ← posCount_eq]; rfl
  · rfl

end Cert.KernelIdeal.Image
end
-- ==== Proof.Args.lean ====
/- An image's boxes, anchors, offsets, scores and labels, read off the programs' arguments. -/
module

public import proofs.«01_k».proof.Proof.Reals

@[expose] public section

noncomputable section

namespace Cert.Mbl

open Idealize.ShloMosaic

/-- Image `i`'s predicted offsets. -/
def argOffsets (x0 : FVec Ideal ⟨3, ![32, 24564, 4]⟩ .f32) (i : Fin 32) : Fin 4 → Fin 24564 → EReal :=
  fun d a => x0 (ix3 i a d)

/-- Image `i`'s scores. -/
def argScores (x1 : FVec Ideal ⟨3, ![32, 24564, 21]⟩ .f32) (i : Fin 32) : Fin 21 → Fin 24564 → EReal :=
  fun c a => x1 (ix3 i a c)

/-- Image `i`'s boxes. -/
def argBoxes (x2 : FVec Ideal ⟨3, ![32, 32, 4]⟩ .f32) (i : Fin 32) : Fin 32 → Fin 4 → EReal :=
  fun o d => x2 (ix3 i o d)

/-- The anchors. -/
def argAnchors (x4 : FVec Ideal ⟨2, ![24564, 4]⟩ .f32) : Fin 4 → Fin 24564 → EReal :=
  fun d a => x4 (ix2 a d)

/-- Image `i`'s table of overlaps. -/
def argTable (x2 : FVec Ideal ⟨3, ![32, 32, 4]⟩ .f32) (x4 : FVec Ideal ⟨2, ![24564, 4]⟩ .f32) (i : Fin 32) :
    Fin 32 → Fin 24564 → EReal := table (argBoxes x2 i) (argAnchors x4)

/-- `l` are the labels: numbers below twenty. -/
def IsLabels (x3 : IVec ⟨2, ![32, 32]⟩ 32) (l : Fin 32 → Fin 32 → Fin 20) : Prop :=
  ∀ i o, x3 (ix2 i o) = BitVec.ofNat 32 (l i o)

/-- The scores are reals. -/
def FiniteScores (x1 : FVec Ideal ⟨3, ![32, 24564, 21]⟩ .f32) : Prop :=
  ∀ i c a, ∃ x : ℝ, argScores x1 i c a = (x : EReal)

section

variable (x0 : FVec Ideal ⟨3, ![32, 24564, 4]⟩ .f32) (x1 : FVec Ideal ⟨3, ![32, 24564, 21]⟩ .f32)
  (x2 : FVec Ideal ⟨3, ![32, 32, 4]⟩ .f32) (l : Fin 32 → Fin 32 → Fin 20) (x4 : FVec Ideal ⟨2, ![24564, 4]⟩ .f32)

/-- The positive anchors of all images, at least one. -/
def allPos : EReal := max (∑ i : Fin 32, posCount (argTable x2 x4 i)) 1

/-- The second result. -/
def locResult : EReal :=
  Ideal.div (∑ i : Fin 32, locLoss (argTable x2 x4 i) (argBoxes x2 i) (argAnchors x4) (argOffsets x0 i)) (allPos x2 x4)

/-- Image `i`'s mined losses. -/
def argMined (i : Fin 32) : Fin 24564 → ℝ := minedR (argTable x2 x4 i) (l i) (argScores x1 i)

/-- How many mined losses of image `i` count. -/
def argQuota (i : Fin 32) : ℕ := quota (number (argTable x2 x4 i))

/-- The third result. -/
def confResult : EReal :=
  Ideal.div ((∑ i : Fin 32, confLoss (argTable x2 x4 i) (l i) (argScores x1 i)) +
    ∑ i : Fin 32, ((hard (argMined x1 x2 l x4 i) (argQuota x2 x4 i) : ℝ) : EReal)) (allPos x2 x4)

end

end Cert.Mbl

end
-- ==== Proof.KernelRun.lean ====
/- The kernel's whole run: the four arrays of the images' results, and the three numbers made of them. -/
module

public import proofs.«01_k».proof.Proof.KernelBlock
public import proofs.«01_k».proof.Proof.Args
public import Idealize.ShloMosaic.Lib.Claim

@[expose] public section

set_option maxRecDepth 16384

noncomputable section

namespace Cert.KernelIdeal.Image

open Idealize.ShloMosaic Idealize.ShloMosaic.TcCoe Idealize.SL.Sem
open Idealize.ShloMosaic.Pipeline (Dat)
open Cert.KernelIdeal Cert.KernelIdeal.Gen Cert.Mbl

variable (m : (ℓ : Loc nD τ sig) → Buf (Elt Ideal) ℓ) (c : Dev nD) (t : Fin cfg0.N) (g : Fin 4)

abbrev arg0 : FVec Ideal S32x24564x4 .f32 := m ((c : Thread nD τ).loc main_arg0)
abbrev arg1 : FVec Ideal S32x24564x21 .f32 := m ((c : Thread nD τ).loc main_arg1)
abbrev arg2 : FVec Ideal S32x32x4 .f32 := m ((c : Thread nD τ).loc main_arg2)
abbrev arg3 : IVec S32x32 32 := m ((c : Thread nD τ).loc main_arg3)
abbrev arg4 : FVec Ideal S24564x4 .f32 := m ((c : Thread nD τ).loc main_arg4)

theorem idx : ∀ t : Fin cfg0.N, win0_0.index t = ![t.val, 0, 0] ∧ win0_1.index t = ![t.val, 0, 0] ∧
    win0_2.index t = ![t.val, 0, 0] ∧ win0_3.index t = ![t.val, 0, 0] ∧ win0_4.index t = ![0, 0] ∧
    win0_5.index t = ![t.val, 0, 0] ∧ win0_6.index t = ![t.val, 0, 0] ∧ win0_7.index t = ![t.val, 0, 0] ∧
    win0_8.index t = ![t.val, 0, 0] ∧ t.val < 8 := (by decide +kernel : ∀ t : Fin grid0.N, _)

/-- The image at place `g` of block `t`. -/
def imageAt : Fin 32 := ⟨4 * t.val + g.val, by have := (idx t).2.2.2.2.2.2.2.2.2; omega⟩

/-! What the region finds in the arrays the host prepares. -/

theorem entry0 : V m c main_v0 = transpose S32x4x24564 [0, 2, 1] (arg0 m c) transposes_S32x24564x4_S32x4x24564_0_2_1 := by
  simp only [V, V0, hostOps0, List.flatten_cons, List.flatten_nil, List.append_nil]
  entry_read
  rfl

theorem entry1 : V m c main_v1 = transpose S32x21x24564 [0, 2, 1] (arg1 m c) transposes_S32x24564x21_S32x21x24564_0_2_1 := by
  simp only [V, V0, hostOps0, List.flatten_cons, List.flatten_nil, List.append_nil]
  entry_read
  rfl

theorem entry3 : V m c main_v3 = broadcastInDim S32x1x32 ![0, 2] bcast_S32x32_S32x1x32_0_2
    (sitofp .f32 (arg3 m c) : FVec Ideal S32x32 .f32) := by
  simp only [V, V0, hostOps0, List.flatten_cons, List.flatten_nil, List.append_nil]
  entry_read
  rfl

theorem entry4 : V m c main_v4 = transpose S4x24564 [1, 0] (arg4 m c) transposes_S24564x4_S4x24564_1_0 := by
  simp only [V, V0, hostOps0, List.flatten_cons, List.flatten_nil, List.append_nil]
  entry_read
  rfl

/-! Block `t`'s inputs are its images' arguments. -/

theorem boxes_eq : boxes (iblk m c 2 t) g = argBoxes (arg2 m c) (imageAt t g) := by
  funext o d
  unfold boxes argBoxes
  blk_ext [iblk, V, idx t, imageAt]

theorem anchors_eq : anchors (iblk m c 4 t) = argAnchors (arg4 m c) := by
  funext d a
  have h : iblk m c 4 t (ix2 d a) = V m c main_v4 (ix2 d a) := by blk_ext [iblk, idx t]
  unfold anchors argAnchors
  rw [h, entry4]
  pointwise

theorem offsets_eq : offsets (iblk m c 0 t) g = argOffsets (arg0 m c) (imageAt t g) := by
  funext d a
  have h : iblk m c 0 t (ix3 g d a) = V m c main_v0 (ix3 (imageAt t g) d a) := by blk_ext [iblk, idx t, imageAt]
  unfold offsets argOffsets
  rw [h, entry0]
  pointwise

theorem scores_eq : scores (iblk m c 1 t) g = argScores (arg1 m c) (imageAt t g) := by
  funext d a
  have h : iblk m c 1 t (ix3 g d a) = V m c main_v1 (ix3 (imageAt t g) d a) := by blk_ext [iblk, idx t, imageAt]
  unfold scores argScores
  rw [h, entry1]
  pointwise

theorem labels_eq (l : Fin 32 → Fin 32 → Fin 20) (hl : IsLabels (arg3 m c) l) (o : Fin 32) :
    iblk m c 3 t (ix3 g (0 : Fin 1) o) = at' (l (imageAt t g) o) := by
  have h : iblk m c 3 t (ix3 g (0 : Fin 1) o) = V m c main_v3 (ix3 (imageAt t g) (0 : Fin 1) o) := by
    blk_ext [iblk, idx t, imageAt]
  have e : (broadcastInDim S32x1x32 ![0, 2] bcast_S32x32_S32x1x32_0_2
      (sitofp .f32 (arg3 m c) : FVec Ideal S32x32 .f32) : FVec Ideal S32x1x32 .f32) (ix3 (imageAt t g) (0 : Fin 1) o) =
      (FloatOps.sitofp .f32 (arg3 m c (ix2 (imageAt t g) o)) : Ideal .f32) := by pointwise
  rw [h, entry3, e, hl]
  exact position (by omega)

theorem table_eq : tableOf m c t g = argTable (arg2 m c) (arg4 m c) (imageAt t g) := by
  rw [tableOf, boxes_eq, anchors_eq, argTable]

/-! The four arrays. -/

/-- A block's results, image by image. -/
theorem read_point (X : FVec Ideal S4x1x1 .f32) (G : Fin 32 → EReal)
    (h : ∀ g : Fin 4, X (ix3 g (0 : Fin 1) (0 : Fin 1)) = G (imageAt t g)) (y : S4x1x1.Idx) : X y = G (imageAt t (y 0)) := by
  have hy : y = ix3 (y 0) (0 : Fin 1) (0 : Fin 1) := by
    rw [eq_ix3 y]
    exact congrArg₂ (ix3 (y 0)) (Subsingleton.elim (α := Fin 1) _ _) (Subsingleton.elim (α := Fin 1) _ _)
  rw [hy]
  exact h (y 0)

theorem final5 (G : Fin 32 → EReal) (h : ∀ t g, (dats m 0 c).after 5 t (ix3 g (0 : Fin 1) (0 : Fin 1)) = G (imageAt t g)) :
    (dats m 0 c).arrAt 5 (cfgs 0).N = fun j : S32x1x1.Idx => G (j 0) := by
  refine (dats m 0 c).arrAt_eq_of_covers 5 _ (by decide +kernel) fun t _ y => ?_
  blk_simp
  refine (read_point t _ G (h t) y).trans (congrArg G (Fin.ext ?_))
  blk_simp [idx t, imageAt]
  exact congrArg (· + _) (Nat.mul_comm _ _)

theorem final6 (G : Fin 32 → EReal) (h : ∀ t g, (dats m 0 c).after 6 t (ix3 g (0 : Fin 1) (0 : Fin 1)) = G (imageAt t g)) :
    (dats m 0 c).arrAt 6 (cfgs 0).N = fun j : S32x1x1.Idx => G (j 0) := by
  refine (dats m 0 c).arrAt_eq_of_covers 6 _ (by decide +kernel) fun t _ y => ?_
  blk_simp
  refine (read_point t _ G (h t) y).trans (congrArg G (Fin.ext ?_))
  blk_simp [idx t, imageAt]
  exact congrArg (· + _) (Nat.mul_comm _ _)

theorem final7 (G : Fin 32 → EReal) (h : ∀ t g, (dats m 0 c).after 7 t (ix3 g (0 : Fin 1) (0 : Fin 1)) = G (imageAt t g)) :
    (dats m 0 c).arrAt 7 (cfgs 0).N = fun j : S32x1x1.Idx => G (j 0) := by
  refine (dats m 0 c).arrAt_eq_of_covers 7 _ (by decide +kernel) fun t _ y => ?_
  blk_simp
  refine (read_point t _ G (h t) y).trans (congrArg G (Fin.ext ?_))
  blk_simp [idx t, imageAt]
  exact congrArg (· + _) (Nat.mul_comm _ _)

theorem final8 (G : Fin 32 → EReal) (h : ∀ t g, (dats m 0 c).after 8 t (ix3 g (0 : Fin 1) (0 : Fin 1)) = G (imageAt t g)) :
    (dats m 0 c).arrAt 8 (cfgs 0).N = fun j : S32x1x1.Idx => G (j 0) := by
  refine (dats m 0 c).arrAt_eq_of_covers 8 _ (by decide +kernel) fun t _ y => ?_
  blk_simp
  refine (read_point t _ G (h t) y).trans (congrArg G (Fin.ext ?_))
  blk_simp [idx t, imageAt]
  exact congrArg (· + _) (Nat.mul_comm _ _)

/-- What the region leaves, before the last host lines. -/
abbrev left (c : Dev nD) : Valuation τ sig (Elt Ideal) :=
  Pipeline.withArrays (cfgs 0).spec c (V0 m c) fun w => (dats m 0 c).arrAt w (cfgs 0).N

theorem left5 : left m c main_v5_0 = (dats m 0 c).arrAt 5 (cfgs 0).N :=
  Pipeline.withArrays_arr (cfgs 0).spec launch0.win.arr_inj c (V0 m c) (fun w => (dats m 0 c).arrAt w (cfgs 0).N) 5

theorem left6 : left m c main_v5_1 = (dats m 0 c).arrAt 6 (cfgs 0).N :=
  Pipeline.withArrays_arr (cfgs 0).spec launch0.win.arr_inj c (V0 m c) (fun w => (dats m 0 c).arrAt w (cfgs 0).N) 6

theorem left7 : left m c main_v5_2 = (dats m 0 c).arrAt 7 (cfgs 0).N :=
  Pipeline.withArrays_arr (cfgs 0).spec launch0.win.arr_inj c (V0 m c) (fun w => (dats m 0 c).arrAt w (cfgs 0).N) 7

theorem left8 : left m c main_v5_3 = (dats m 0 c).arrAt 8 (cfgs 0).N :=
  Pipeline.withArrays_arr (cfgs 0).spec launch0.win.arr_inj c (V0 m c) (fun w => (dats m 0 c).arrAt w (cfgs 0).N) 8

section

variable (ρ : Dev nD → PrngReg) (l : Dev nD → Fin 32 → Fin 32 → Fin 20) (hl : ∀ c, IsLabels (arg3 m c) (l c))
  (hs : ∀ c, FiniteScores (arg1 m c))

theorem last5 : left m c main_v5_0 = fun j : S32x1x1.Idx =>
    locLoss (argTable (arg2 m c) (arg4 m c) (j 0)) (argBoxes (arg2 m c) (j 0)) (argAnchors (arg4 m c))
      (argOffsets (arg0 m c) (j 0)) :=
  (left5 m c).trans (final5 m c (fun i => locLoss (argTable (arg2 m c) (arg4 m c) i) (argBoxes (arg2 m c) i)
    (argAnchors (arg4 m c)) (argOffsets (arg0 m c) i)) fun t g => by
      rw [after5, table_eq, boxes_eq, anchors_eq, offsets_eq])

theorem last6 : left m c main_v5_1 = fun j : S32x1x1.Idx => posCount (argTable (arg2 m c) (arg4 m c) (j 0)) :=
  (left6 m c).trans (final6 m c (fun i => posCount (argTable (arg2 m c) (arg4 m c) i)) fun t g => by
    rw [after6, table_eq])

include hl in
theorem block_labels (t : Fin cfg0.N) (g : Fin 4) (o : Fin 32) :
    iblk m c 3 t (ix3 g (0 : Fin 1) o) = at' (l c (imageAt t g) o) :=
  labels_eq m c t g (l c) (hl c) o

include hs in
theorem block_scores (t : Fin cfg0.N) (g : Fin 4) (k : Fin 21) (a : Fin 24564) :
    ∃ x : ℝ, scores (iblk m c 1 t) g k a = x := by
  rw [scores_eq]
  exact hs c _ _ _

include hl in
theorem last7 : left m c main_v5_2 = fun j : S32x1x1.Idx =>
    confLoss (argTable (arg2 m c) (arg4 m c) (j 0)) (l c (j 0)) (argScores (arg1 m c) (j 0)) :=
  (left7 m c).trans (final7 m c (fun i => confLoss (argTable (arg2 m c) (arg4 m c) i) (l c i) (argScores (arg1 m c) i))
    fun t g => by rw [after7 m c t g _ (block_labels m c l hl t g), table_eq, scores_eq])

include hl hs in
theorem last8 : left m c main_v5_3 = fun j : S32x1x1.Idx =>
    ((hard (argMined (arg1 m c) (arg2 m c) (l c) (arg4 m c) (j 0)) (argQuota (arg2 m c) (arg4 m c) (j 0)) : ℝ) : EReal) :=
  (left8 m c).trans (final8 m c
    (fun i => ((hard (argMined (arg1 m c) (arg2 m c) (l c) (arg4 m c) i) (argQuota (arg2 m c) (arg4 m c) i) : ℝ) : EReal))
    fun t g => by
      rw [after8 m c t g _ (block_labels m c l hl t g) (block_scores m c hs t g), table_eq, scores_eq]
      rfl)

include hl hs in
/-- The kernel's three results. -/
theorem run_results : θ_run defs (onTc (τ := τ) (main (F := Ideal))) ⟨m, fun _ => 0, ρ⟩ fun r => ∀ c : Dev nD,
    r.2.mem ((c : Thread nD τ).loc main_v14) = (fun _ => locResult (arg0 m c) (arg2 m c) (arg4 m c) +
        confResult (arg1 m c) (arg2 m c) (l c) (arg4 m c) : FVec Ideal S_ .f32) ∧
    r.2.mem ((c : Thread nD τ).loc main_v9) = (fun _ => locResult (arg0 m c) (arg2 m c) (arg4 m c) : FVec Ideal S_ .f32) ∧
    r.2.mem ((c : Thread nD τ).loc main_v13) = (fun _ => confResult (arg1 m c) (arg2 m c) (l c) (arg4 m c) : FVec Ideal S_ .f32) := by
  run_from Cert.KernelIdeal.Gen.run_main m ρ
  all_goals
    unfold Pipeline.afterTail₀
    change StableHlo.after [hostOps1].flatten (left m c) _ = _
    simp only [hostOps1, List.flatten_cons, List.flatten_nil, List.append_nil]
    after_results
    simp only [last5 m c, last6 m c, last7 m c l hl, last8 m c l hl hs]
    funext i
    pointwise
    simp only [Finset.univ_unique, Finset.sum_singleton]
    rfl

include hl hs in
/-- The kernel's three results, and its arguments unchanged. -/
theorem run : θ_run defs (onTc (τ := τ) (main (F := Ideal))) ⟨m, fun _ => 0, ρ⟩ fun r => ∀ c : Dev nD,
    r.2.mem ((c : Thread nD τ).loc main_v14) = (fun _ => locResult (arg0 m c) (arg2 m c) (arg4 m c) +
        confResult (arg1 m c) (arg2 m c) (l c) (arg4 m c) : FVec Ideal S_ .f32)
    ∧ r.2.mem ((c : Thread nD τ).loc main_v9) = (fun _ => locResult (arg0 m c) (arg2 m c) (arg4 m c) : FVec Ideal S_ .f32)
    ∧ r.2.mem ((c : Thread nD τ).loc main_v13) = (fun _ => confResult (arg1 m c) (arg2 m c) (l c) (arg4 m c) : FVec Ideal S_ .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h.1 c).1, (h.1 c).2.1, (h.1 c).2.2, h.2.1 c⟩)
    (θ_run_and (run_results m ρ l hl hs) (Gen.frame m ρ))

end

end Cert.KernelIdeal.Image

end
-- ==== Proof.RefTable.lean ====
/- The reference's table of overlaps. -/
module

public import proofs.«01_k».proof.Proof.Args
public import proofs.«01_k».proof.Proof.Gen.ReferenceIdeal.Read

@[expose] public section

noncomputable section

namespace Cert.ReferenceIdeal.Image

open Idealize.ShloMosaic Cert.ReferenceIdeal.Read Cert.Mbl

variable (x2 : FVec Ideal S32x32x4 .f32) (x4 : FVec Ideal S24564x4 .f32)

/-- Half of a value. -/
theorem halve (x : EReal) : Ideal.div x (Ideal.ofBits .f32 0x40000000#32) = x * half := by
  rw [word_two, Ideal.div_coe (by norm_num), half, word_half]

/-- An anchor's lower corner. -/
theorem corner_lo (a : Fin 24564) (k : Fin 2) :
    val_main_v10 (F := Ideal) x4 (ix2 a (lo k)) = x4 (ix2 a (lo k)) - x4 (ix2 a (hi k)) * half := by
  unfold val_main_v10
  fin_cases k <;>
    (pointwise [val_main_v4, val_main_v3, val_main_v2, val_main_v1, val_main_v0, val_main_cst, lo, hi]; rw [halve])

/-- An anchor's upper corner. -/
theorem corner_hi (a : Fin 24564) (k : Fin 2) :
    val_main_v10 (F := Ideal) x4 (ix2 a (hi k)) = x4 (ix2 a (lo k)) + x4 (ix2 a (hi k)) * half := by
  unfold val_main_v10
  fin_cases k <;>
    (pointwise [val_main_v9, val_main_v8, val_main_v7, val_main_v6, val_main_v5, val_main_cst_0, lo, hi]; rw [halve])

/-- An anchor's extent from its corners: half of an infinite one meets no infinity of the other sign. -/
theorem extent {c : EReal} (hc : ∃ r : ℝ, c = r) (w : EReal) : c + w * half - (c - w * half) = w := by
  obtain ⟨r, rfl⟩ := hc
  rw [half, word_half]
  have h : (0 : ℝ) < 1 / 2 := by norm_num
  induction w with
  | bot => rw [EReal.bot_mul_coe_of_pos h]; rfl
  | top => rw [EReal.top_mul_coe_of_pos h]; rfl
  | coe t =>
    rw [← EReal.coe_mul, ← EReal.coe_add, ← EReal.coe_sub, ← EReal.coe_sub]
    refine congrArg _ ?_
    ring

/-- The union is the same number however it is added up. -/
theorem union_eq (b n : Fin 4 → EReal) (h0 : ∃ r : ℝ, n 0 = r) (h1 : ∃ r : ℝ, n 1 = r) :
    (b 2 - b 0) * (b 3 - b 1) +
        (n 0 + n 2 * half - (n 0 - n 2 * half)) * (n 1 + n 3 * half - (n 1 - n 3 * half)) - shared b n + eps =
      (b 2 - b 0) * (b 3 - b 1) + (n 2 * n 3 + eps) - shared b n := by
  rw [extent h0, extent h1, sub_eq_add_neg, sub_eq_add_neg _ (shared b n), ← add_assoc, add_right_comm]

/-- The reference's overlaps are the table's. -/
theorem iou_eq (hn : ∀ a (k : Fin 2), ∃ r : ℝ, x4 (ix2 a (lo k)) = r)
    (i o : Fin 32) (a : Fin 24564) : val_main_v78 (F := Ideal) x2 x4 (ix3 i o a) = argTable x2 x4 i o a := by
  have h0 : val_main_v10 (F := Ideal) x4 (ix2 a (0 : Fin 4)) = x4 (ix2 a (0 : Fin 4)) - x4 (ix2 a (2 : Fin 4)) * half :=
    corner_lo x4 a 0
  have h1 : val_main_v10 (F := Ideal) x4 (ix2 a (1 : Fin 4)) = x4 (ix2 a (1 : Fin 4)) - x4 (ix2 a (3 : Fin 4)) * half :=
    corner_lo x4 a 1
  have h2 : val_main_v10 (F := Ideal) x4 (ix2 a (2 : Fin 4)) = x4 (ix2 a (0 : Fin 4)) + x4 (ix2 a (2 : Fin 4)) * half :=
    corner_hi x4 a 0
  have h3 : val_main_v10 (F := Ideal) x4 (ix2 a (3 : Fin 4)) = x4 (ix2 a (1 : Fin 4)) + x4 (ix2 a (3 : Fin 4)) * half :=
    corner_hi x4 a 1
  generalize hc : val_main_v10 (F := Ideal) x4 = c at h0 h1 h2 h3
  have hu := union_eq (fun d => x2 (ix3 i o d)) (fun d => x4 (ix2 a d)) (hn a 0) (hn a 1)
  pointwise [val_main_v78, val_main_v11, val_main_v12, val_main_v13, val_main_v14, val_main_v15, val_main_v16, val_main_v17,
    val_main_v18, val_main_v19, val_main_v20, val_main_v21, val_main_v22, val_main_v23, val_main_v24,
    val_main_v25, val_main_v26, val_main_v27, val_main_v28, val_main_v29, val_main_v30, val_main_v31,
    val_main_v32, val_main_v33, val_main_v34, val_main_v35, val_main_v36, val_main_v37, val_main_v38,
    val_main_v39, val_main_v40, val_main_v41, val_main_v42, val_main_v43, val_main_v44, val_main_v45,
    val_main_v46, val_main_v47, val_main_v48, val_main_v49, val_main_v50, val_main_v51, val_main_v52,
    val_main_v53, val_main_v54, val_main_v55, val_main_v56, val_main_v57, val_main_v58, val_main_v59,
    val_main_v60, val_main_v61, val_main_v62, val_main_v63, val_main_v64, val_main_v65, val_main_v66,
    val_main_v67, val_main_v68, val_main_v69, val_main_v70, val_main_v71, val_main_v72, val_main_v73,
    val_main_v74, val_main_v75, val_main_v76, val_main_v77, val_main_cst_1, val_main_cst_2, val_main_cst_3, hc]
  simp only [h0, h1, h2, h3, max_comm _ (0 : EReal)]
  exact congrArg (Ideal.div _) hu

end Cert.ReferenceIdeal.Image

end
-- ==== Proof.Order.lean ====
/- What the stable sorts give: the first largest entry, and the ranks by descending value. -/
module

public import proofs.«01_k».proof.Proof.Match
public import Idealize.ShloMosaic.Lib.SortFacts

@[expose] public section

noncomputable section

namespace Cert.Mbl

open Finset Idealize.ShloMosaic

/-- The head of a list sorted downwards is its first largest entry. -/
theorem head_sorted {n : ℕ} (f : Fin n → EReal) (R : Fin n → Fin n → Bool) (hR : ∀ a b, R a b = true ↔ f b < f a) :
    ∀ l : List (Fin n), l.Pairwise (· < ·) → ∀ h t, stableSort R l = h :: t →
      h ∈ l ∧ ∀ x ∈ l, f x ≤ f h ∧ (f x = f h → h ≤ x)
  | [], _, h, t, e => by simp [stableSort] at e
  | a :: l, hl, h, t, e => by
    rw [List.pairwise_cons] at hl
    unfold stableSort at e
    cases hs : stableSort R l with
    | nil =>
      have hnil : l = [] := List.length_eq_zero_iff.1 (by rw [← length_stableSort R l, hs]; rfl)
      rw [hs] at e
      obtain ⟨rfl, -⟩ := List.cons.inj e
      subst hnil
      simp
    | cons b m =>
      obtain ⟨hb, hall⟩ := head_sorted f R hR l hl.2 b m hs
      rw [hs] at e
      unfold insertBefore at e
      by_cases hba : R b a = true
      · rw [if_pos hba] at e
        obtain ⟨rfl, -⟩ := List.cons.inj e
        have hlt := (hR _ _).1 hba
        refine ⟨List.mem_cons_of_mem _ hb, fun x hx => ?_⟩
        rcases List.mem_cons.1 hx with rfl | hx
        · exact ⟨hlt.le, fun he => absurd he hlt.ne⟩
        · exact hall x hx
      · rw [if_neg hba] at e
        obtain ⟨rfl, -⟩ := List.cons.inj e
        have hle : f b ≤ f a := not_lt.1 fun hlt => hba ((hR _ _).2 hlt)
        refine ⟨List.mem_cons_self, fun x hx => ?_⟩
        rcases List.mem_cons.1 hx with rfl | hx
        · exact ⟨le_rfl, fun _ => le_rfl⟩
        · exact ⟨(hall x hx).1.trans hle, fun _ => (hl.1 x hx).le⟩

/-- The position a downward stable sort puts in front is the first largest one. -/
theorem sortedFrom_zero {n : ℕ} [NeZero n] (f : Fin n → EReal) (R : Fin n → Fin n → Bool)
    (hR : ∀ a b, R a b = true ↔ f b < f a) : sortedFrom R 0 = first f := by
  have hlen := length_sortPositions n R
  have hn : 0 < n := Nat.pos_of_ne_zero (NeZero.ne n)
  cases hs : sortPositions n R with
  | nil => rw [hs] at hlen; exact absurd hlen (by simpa using hn.ne)
  | cons h t =>
    obtain ⟨-, hall⟩ := head_sorted f R hR _ (List.pairwise_lt_finRange n) h t hs
    have he : sortedFrom R 0 = h := by
      unfold sortedFrom
      simp only [List.get_eq_getElem, hs]
      rfl
    rw [he]
    exact IsFirst.eq_first ⟨fun j => (hall j (List.mem_finRange j)).1, fun j => (hall j (List.mem_finRange j)).2⟩

/-- Sorting positions by value and then the positions themselves ranks them: the second sort undoes the first, so
    the positions of rank below `k` are `k` many and no other position holds a larger value. -/
theorem ranks {n : ℕ} (v : Fin n → ℝ) (R R' : Fin n → Fin n → Bool) (hR : ∀ a b, R a b = true ↔ v b < v a)
    (hR' : ∀ a b, R' a b = true ↔ sortedFrom R a < sortedFrom R b) (k : ℕ) (hk : k ≤ n) :
    (univ.filter fun a => (sortedFrom R' a : ℕ) < k).card = k ∧
      ∀ a ∈ univ.filter (fun a => (sortedFrom R' a : ℕ) < k), ∀ b ∉ univ.filter (fun a => (sortedFrom R' a : ℕ) < k),
        v b ≤ v a := by
  have hinv : ∀ i j, i < j → v (sortedFrom R j) ≤ v (sortedFrom R i) := fun i j hij => by
    have h := sortedFrom_noInversion R R (fun a b hab => Bool.eq_false_iff.2 fun hba =>
      lt_asymm ((hR _ _).1 hab) ((hR _ _).1 hba)) (fun _ _ h => h) (fun a b c hab hbc => Bool.eq_false_iff.2 fun hac => by
        have h1 := Bool.eq_false_iff.1 hab
        have h2 := Bool.eq_false_iff.1 hbc
        rw [ne_eq, hR, not_lt] at h1 h2
        exact absurd ((hR _ _).1 hac) (not_lt.2 (h1.trans h2))) i j hij
    exact not_lt.1 fun hlt => (Bool.eq_false_iff.1 h) ((hR _ _).2 hlt)
  have hmono : StrictMono fun i => sortedFrom R (sortedFrom R' i) := fun i j hij => by
    have h := sortedFrom_noInversion R' R' (fun a b hab => Bool.eq_false_iff.2 fun hba =>
      lt_asymm ((hR' _ _).1 hab) ((hR' _ _).1 hba)) (fun _ _ h => h) (fun a b c hab hbc => Bool.eq_false_iff.2 fun hac => by
        have h1 := Bool.eq_false_iff.1 hab
        have h2 := Bool.eq_false_iff.1 hbc
        rw [ne_eq, hR', not_lt] at h1 h2
        exact absurd ((hR' _ _).1 hac) (not_lt.2 (h2.trans h1))) i j hij
    have hle : sortedFrom R (sortedFrom R' i) ≤ sortedFrom R (sortedFrom R' j) :=
      not_lt.1 fun hlt => (Bool.eq_false_iff.1 h) ((hR' _ _).2 hlt)
    exact lt_of_le_of_ne hle fun he => hij.ne (sortedFrom_injective R' (sortedFrom_injective R he))
  have hid : ∀ i, sortedFrom R (sortedFrom R' i) = i := fun i => by
    have e : (fun i => sortedFrom R (sortedFrom R' i)) = id := by
      refine hmono.range_inj strictMono_id |>.1 ?_
      exact ((sortedFrom_surjective R).comp (sortedFrom_surjective R')).range_eq.trans Set.range_id.symm
    exact congrFun e i
  refine ⟨?_, fun a ha b hb => ?_⟩
  · have hbij : Function.Bijective (sortedFrom R') := ⟨sortedFrom_injective R', sortedFrom_surjective R'⟩
    have hc : (univ.filter fun a : Fin n => (sortedFrom R' a : ℕ) < k).card = (univ.filter fun a : Fin n => (a : ℕ) < k).card :=
      Finset.card_bij (fun a _ => sortedFrom R' a) (fun a ha => by simpa using ha) (fun a _ b _ h => hbij.1 h)
        fun b hb => by
          obtain ⟨a, rfl⟩ := hbij.2 b
          exact ⟨a, by simpa using hb, rfl⟩
    rw [hc]
    have := Fin.card_filter_val_lt (n := n) (m := k)
    rw [this]
    omega
  · simp only [mem_filter, mem_univ, true_and, not_lt] at ha hb
    have h := hinv _ _ (show sortedFrom R' a < sortedFrom R' b from Fin.lt_def.2 (lt_of_lt_of_le ha hb))
    rwa [hid, hid] at h

end Cert.Mbl

end
-- ==== Proof.RefSort.lean ====
/- The host's sorts read along the last axis of an array of any size. -/
module

public import proofs.«01_k».proof.Proof.Order

@[expose] public section

noncomputable section

namespace Cert.Mbl

open Finset Idealize.ShloMosaic

theorem ofBool_one (b : Bool) : BitVec.ofBool b = 1#1 ↔ b = true := by cases b <;> decide

theorem along_three {a b n : ℕ} (i : Fin a) (j : Fin b) (z k : Fin n) : (ix3 i j z).along 2 k = ix3 i j k := by
  funext d
  match d with
  | ⟨0, _⟩ => rfl
  | ⟨1, _⟩ => rfl
  | ⟨2, _⟩ => rfl

theorem along_two {b n : ℕ} (j : Fin b) (z k : Fin n) : (ix2 j z).along 1 k = ix2 j k := by
  funext d
  match d with
  | ⟨0, _⟩ => rfl
  | ⟨1, _⟩ => rfl

/-- The index `top_k` gives for the one greatest entry is that of the first greatest. -/
theorem top_first {a b n : ℕ} [NeZero n] (v : FVec Ideal ⟨3, ![a, b, n]⟩ .f32)
    (h : (⟨3, ![a, b, n]⟩ : Shape).Slices (fun _ => 0) ⟨3, ![a, b, 1]⟩) (i : Fin a) (j : Fin b) :
    (Host.topK ⟨3, ![a, b, 1]⟩ 2 (FloatOps.cmpfTotal .gt) v h).2 (ix3 i j 0) =
      BitVec.ofNat 32 (first fun k => v (ix3 i j k)) := by
  have hj : (fun d : Fin 3 => (⟨0 + (ix3 i j (0 : Fin 1) d).val, Nat.lt_of_lt_of_le
      (Nat.add_lt_add_left (ix3 i j (0 : Fin 1) d).isLt _) (h.2 d)⟩ : Fin (![a, b, n] d))) = ix3 i j (0 : Fin n) := by
    funext d
    match d with
    | ⟨0, _⟩ => exact Fin.ext (Nat.zero_add _)
    | ⟨1, _⟩ => exact Fin.ext (Nat.zero_add _)
    | ⟨2, _⟩ => exact Fin.ext (by simp)
  have hs := sortedFrom_zero (fun k => v (ix3 i j k))
    (fun k k' => FloatOps.cmpfTotal .gt (v (ix3 i j k)) (v (ix3 i j k')) == 1#1) (fun k k' => by
      show ((Ideal.cmp .ogt (v (ix3 i j k)) (v (ix3 i j k'))) == 1#1) = true ↔ _
      simp [Ideal.cmp, ofBool_one])
  refine Eq.trans (congrArg (Host.sort2 ⟨3, ![a, b, n]⟩ 2 (fun l r => FloatOps.cmpfTotal .gt l.1 r.1) v
    (fun i => if hd : 2 < 3 then iotaInDim ⟨3, ![a, b, n]⟩ 32 ⟨2, hd⟩ i else 0#32)).2 hj) ?_
  refine Eq.trans ?_ (congrArg (fun z : Fin n => BitVec.ofNat 32 z.val) hs)
  exact congrArg (fun p : Fin n → (⟨3, ![a, b, n]⟩ : Shape).Idx => BitVec.ofNat 32 (p (sortedFrom (fun k k' =>
    FloatOps.cmpfTotal .gt (v (p k)) (v (p k')) == 1#1) (0 : Fin n)) 2).val)
    (show (fun k : Fin n => (ix3 i j (0 : Fin n)).along 2 k) = fun k => ix3 i j k from funext fun k => along_three i j (0 : Fin n) k)

/-- The positions a sort of a row carries along. -/
theorem sort_positions {b n : ℕ} {α : Type} (cmp : α × BitVec 32 → α × BitVec 32 → BitVec 1)
    (v : (⟨2, ![b, n]⟩ : Shape).Idx → α) (w : (⟨2, ![b, n]⟩ : Shape).Idx → BitVec 32)
    (hw : ∀ j k, w (ix2 j k) = BitVec.ofNat 32 k.val) (j : Fin b) (z : Fin n) :
    (Host.sort2 ⟨2, ![b, n]⟩ 1 cmp v w).2 (ix2 j z) = BitVec.ofNat 32 (sortedFrom (fun k k' =>
      cmp (v (ix2 j k), BitVec.ofNat 32 k.val) (v (ix2 j k'), BitVec.ofNat 32 k'.val) == 1#1) z).val := by
  refine (congrArg (fun p : Fin n → (⟨2, ![b, n]⟩ : Shape).Idx => w (p (sortedFrom (fun k k' =>
    cmp (v (p k), w (p k)) (v (p k'), w (p k')) == 1#1) z)))
    (show (fun k => (ix2 j z).along 1 k) = fun k => ix2 j k from funext fun k => along_two j z k)).trans ?_
  refine (hw j _).trans (congrArg (fun R : Fin n → Fin n → Bool => BitVec.ofNat 32 (sortedFrom R z).val)
    (funext fun k => funext fun k' => ?_))
  exact congrArg₂ (fun x y => cmp (v (ix2 j k), x) (v (ix2 j k'), y) == 1#1) (hw j k) (hw j k')

end Cert.Mbl

end
-- ==== Proof.RefMatch.lean ====
/- The reference's matching of anchors with objects. -/
module

public import proofs.«01_k».proof.Proof.RefSort
public import proofs.«01_k».proof.Proof.RefTable
public import Idealize.ShloMosaic.Lib.Routing.OpsOrder
public import Idealize.ShloMosaic.Lib.SortNet.Extract

@[expose] public section

noncomputable section

namespace Cert.ReferenceIdeal.Image

open Finset Idealize.ShloMosaic Cert.ReferenceIdeal.Read Cert.ReferenceIdeal.Gen Cert.Mbl

/-! Words. -/

theorem and_one (x y : BitVec 1) : IntOp.andi x y = 1#1 ↔ x = 1#1 ∧ y = 1#1 := by
  rcases BitVec.eq_zero_or_eq_one x with rfl | rfl <;> rcases BitVec.eq_zero_or_eq_one y with rfl | rfl <;> decide

theorem or_one (x y : BitVec 1) : IntOp.ori x y = 1#1 ↔ x = 1#1 ∨ y = 1#1 := by
  rcases BitVec.eq_zero_or_eq_one x with rfl | rfl <;> rcases BitVec.eq_zero_or_eq_one y with rfl | rfl <;> decide

theorem eq_one (x y : BitVec 32) : IntOp.cmpi .eq x y = 1#1 ↔ x = y := by
  show BitVec.ofBool (x == y) = 1#1 ↔ _
  rw [ofBool_one, beq_iff_eq]

theorem ofNat_inj {m n : ℕ} (hm : m < 2 ^ 32) (hn : n < 2 ^ 32) : BitVec.ofNat 32 m = BitVec.ofNat 32 n ↔ m = n := by
  rw [← BitVec.toNat_inj, BitVec.toNat_ofNat, BitVec.toNat_ofNat, Nat.mod_eq_of_lt hm, Nat.mod_eq_of_lt hn]

theorem toInt_position (o : Fin 32) : (BitVec.ofNat 32 o).toInt = o := by revert o; decide

/-- The last object to take an anchor over, or else the one it overlaps best, is the match. -/
theorem last_match (q : Fin 32 → Fin 24564 → EReal) (a : Fin 24564) (t : Fin 32 → BitVec 1)
    (ht : ∀ o, t o = 1#1 ↔ Takes q o a) (w : BitVec 32)
    (hw : w = fold IntOp.maxsi 2147483648#32 (fun o : Fin 32 => Scalar.select (t o) (BitVec.ofNat 32 o) 4294967295#32) univ) :
    Scalar.select (IntOp.cmpi .sge w 0#32) w (BitVec.ofNat 32 (first fun o => q o a)) = BitVec.ofNat 32 (obj q a) := by
  obtain ⟨-, hmax, hmem⟩ := SortNet.fold_maxsi_spec (fun o : Fin 32 => Scalar.select (t o) (BitVec.ofNat 32 o) 4294967295#32)
    univ 2147483648#32
  rw [← hw] at hmax hmem
  have hy : ∀ o, t o = 1#1 → Scalar.select (t o) (BitVec.ofNat 32 o) 4294967295#32 = BitVec.ofNat 32 (o : ℕ) :=
    fun o h => by rw [h]; rfl
  have hn : ∀ o, ¬ t o = 1#1 → Scalar.select (t o) (BitVec.ofNat 32 o) 4294967295#32 = 4294967295#32 := fun o h => by
    rw [(BitVec.eq_zero_or_eq_one (t o)).resolve_right h]; rfl
  rcases isMatch_obj q a with ⟨htake, hlast⟩ | ⟨hnone, he⟩
  · have h1 := hmax (obj q a) (mem_univ _)
    rw [hy _ ((ht _).2 htake), toInt_position] at h1
    have hwo : w = BitVec.ofNat 32 (obj q a) := by
      rcases hmem with h | ⟨o, -, h⟩
      · rw [h] at h1; exact absurd h1 (by have := (obj q a).isLt; norm_num [BitVec.toInt]; omega)
      · by_cases hto : t o = 1#1
        · rw [hy o hto] at h
          have h2 := hlast o ((ht o).1 hto)
          rw [h, toInt_position] at h1
          rw [h, le_antisymm h2 (Fin.le_def.2 (by exact_mod_cast h1))]
        · rw [hn o hto] at h
          rw [h] at h1; exact absurd h1 (by have := (obj q a).isLt; norm_num [BitVec.toInt]; omega)
    rw [hwo]
    generalize obj q a = o
    rw [show IntOp.cmpi .sge (BitVec.ofNat 32 (o : ℕ)) 0#32 = 1#1 by revert o; decide]
    rfl
  · have hneg : IntOp.cmpi .sge w 0#32 = 0#1 := by
      rcases hmem with h | ⟨o, -, h⟩
      · rw [h]; decide
      · rw [hn o fun h' => hnone o ((ht o).1 h')] at h
        rw [h]; decide
    rw [hneg, he]
    rfl

/-! The single operations, over any arrays. -/

section

variable (i o : Fin 32) (a : Fin 24564)

theorem best_at (v : FVec Ideal S32x32x24564 .f32) :
    Host.reduce FloatOps.maximumf v (val_main_cst_5 (F := Ideal)) reducesTo_S32x32x24564_S32x24564_d1 h_S_ (ix2 i a) =
      univ.sup fun o => v (ix3 i o a) := by
  pointwise [val_main_cst_5]
  rw [word_bot]
  rfl

theorem reach_at (v : FVec Ideal S32x32x24564 .f32) :
    Host.reduce FloatOps.maximumf v (val_main_cst_4 (F := Ideal)) reducesTo_S32x32x24564_S32x32_d2 h_S_ (ix2 i o) =
      univ.sup fun a => v (ix3 i o a) := by
  pointwise [val_main_cst_4]
  rw [word_bot]
  rfl

theorem place_at (w : IVec S32x32x1 32) : shapeCast S32x32 w shapeCasts_S32x32x1_S32x32 (ix2 i o) = w (ix3 i o 0) := by
  pointwise

theorem choice_at (w : IVec S32x24564x1 32) :
    shapeCast S32x24564 w shapeCasts_S32x24564x1_S32x24564 (ix2 i a) = w (ix3 i a 0) := by
  pointwise

theorem swap_at (v : FVec Ideal S32x32x24564 .f32) :
    transpose S32x24564x32 [0, 2, 1] v transposes_S32x32x24564_S32x24564x32_0_2_1 (ix3 i a o) = v (ix3 i o a) := by
  pointwise

theorem claim_at (p : IVec S32x32 32) (r : FVec Ideal S32x32 .f32) :
    andi (cmpi .eq (val_main_v89 (F := Ideal)) (broadcastInDim S32x32x24564 ![0, 1, 2] bcast_S32x32x1_S32x32x24564_0_1_2
        (broadcastInDim S32x32x1 ![0, 1] bcast_S32x32_S32x32x1_0_1 p)))
      (broadcastInDim S32x32x24564 ![0, 1, 2] bcast_S32x32x1_S32x32x24564_0_1_2
        (cmpf .ogt (broadcastInDim S32x32x1 ![0, 1] bcast_S32x32_S32x32x1_0_1 r) (val_main_v93 (F := Ideal))))
      (ix3 i o a) = IntOp.andi (IntOp.cmpi .eq (BitVec.ofNat 32 a) (p (ix2 i o)))
        (BitVec.ofBool (decide (negligible < r (ix2 i o)))) := by
  pointwise [val_main_v93, val_main_v89, val_main_v87, val_main_v86, val_main_cst_9]
  rfl

theorem takes_at (c : IVec S32x32x24564 1) (r : FVec Ideal S32x32 .f32) (b : FVec Ideal S32x24564 .f32) :
    andi c (cmpf .olt (broadcastInDim S32x32x24564 ![0, 1, 2] bcast_S32x1x24564_S32x32x24564_0_1_2
        (broadcastInDim S32x1x24564 ![0, 2] bcast_S32x24564_S32x1x24564_0_2 b))
      (broadcastInDim S32x32x24564 ![0, 1, 2] bcast_S32x32x1_S32x32x24564_0_1_2
        (broadcastInDim S32x32x1 ![0, 1] bcast_S32x32_S32x32x1_0_1 r))) (ix3 i o a) =
      IntOp.andi (c (ix3 i o a)) (BitVec.ofBool (decide (b (ix2 i a) < r (ix2 i o)))) := by
  pointwise

theorem pos_at (c : IVec S32x32x24564 1) (b : FVec Ideal S32x24564 .f32) :
    ori (cmpf .ogt b (val_main_v84 (F := Ideal)))
      (Host.reduce IntOp.ori c (val_main_c (F := Ideal)) reducesTo_S32x32x24564_S32x24564_d1 h_S_) (ix2 i a) =
      IntOp.ori (BitVec.ofBool (decide (half < b (ix2 i a)))) (fold IntOp.ori 0#1 (fun o => c (ix3 i o a)) univ) := by
  pointwise [val_main_c, val_main_v84, val_main_cst_8]
  rfl

theorem last_at (t : IVec S32x32x24564 1) :
    Host.reduce IntOp.maxsi (select t (val_main_call0_v1 (F := Ideal)) (val_main_call0_v2 (F := Ideal)))
      (val_main_c_11 (F := Ideal)) reducesTo_S32x32x24564_S32x24564_d1 h_S_ (ix2 i a) =
      fold IntOp.maxsi 2147483648#32 (fun o : Fin 32 => Scalar.select (t (ix3 i o a)) (BitVec.ofNat 32 o) 4294967295#32)
        univ := by
  pointwise [val_main_c_11, val_main_call0_v1, val_main_v106, val_main_v105, val_main_call0_v2, val_main_call0_v0,
    val_main_c_10]
  rfl

theorem obj_at (w c : IVec S32x24564 32) :
    select (cmpi .sge w (val_main_v109 (F := Ideal))) w c (ix2 i a) =
      Scalar.select (IntOp.cmpi .sge (w (ix2 i a)) 0#32) (w (ix2 i a)) (c (ix2 i a)) := by
  pointwise [val_main_v109, val_main_c_12]

end

/-! The reference's arrays. -/

variable (x2 : FVec Ideal S32x32x4 .f32) (x4 : FVec Ideal S24564x4 .f32)
  (q : Fin 32 → Fin 32 → Fin 24564 → EReal)
  (hq : ∀ i o a, val_main_v78 (F := Ideal) x2 x4 (ix3 i o a) = q i o a)

include hq

/-- An anchor's best overlap. -/
theorem best_eq (i : Fin 32) (a : Fin 24564) : val_main_v81 (F := Ideal) x2 x4 (ix2 i a) = best (q i) a :=
  (best_at i a (val_main_v78 (F := Ideal) x2 x4)).trans (by simp only [hq]; rfl)

/-- An object's best overlap. -/
theorem reach_eq (i o : Fin 32) : val_main_v79 (F := Ideal) x2 x4 (ix2 i o) = reach (q i) o :=
  (reach_at i o (val_main_v78 (F := Ideal) x2 x4)).trans (by simp only [hq]; rfl)

/-- Where an object's best overlap is met first. -/
theorem place_eq (i o : Fin 32) :
    val_main_v80 (F := Ideal) x2 x4 (ix2 i o) = BitVec.ofNat 32 (first (q i o)) :=
  (place_at i o (val_main_indices (F := Ideal) x2 x4)).trans
    ((top_first (val_main_v78 (F := Ideal) x2 x4) sliceFits_S32x32x24564_S32x32x1 i o).trans (by simp only [hq]))

/-- Which object an anchor overlaps best, the first of equals. -/
theorem choice_eq (i : Fin 32) (a : Fin 24564) :
    val_main_v83 (F := Ideal) x2 x4 (ix2 i a) = BitVec.ofNat 32 (first fun o => q i o a) := by
  have hv : ∀ k, val_main_v82 (F := Ideal) x2 x4 (ix3 i a k) = q i k a := fun k =>
    (swap_at i k a (val_main_v78 (F := Ideal) x2 x4)).trans (hq i k a)
  exact (choice_at i a (val_main_indices_7 (F := Ideal) x2 x4)).trans
    ((top_first (val_main_v82 (F := Ideal) x2 x4) sliceFits_S32x24564x32_S32x24564x1 i a).trans (by simp only [hv]))

/-- An object's claim to an anchor. -/
theorem claim_eq (i o : Fin 32) (a : Fin 24564) :
    val_main_v96 (F := Ideal) x2 x4 (ix3 i o a) = 1#1 ↔ Claims (q i) o a := by
  refine Eq.to_iff (congrArg (· = 1#1) (claim_at i o a (val_main_v80 (F := Ideal) x2 x4)
    (val_main_v79 (F := Ideal) x2 x4))) |>.trans ?_
  rw [place_eq x2 x4 q hq, reach_eq x2 x4 q hq, and_one, eq_one, ofBool_one, decide_eq_true_iff, ofNat_inj
    (lt_trans a.isLt (by norm_num)) (lt_trans (first (q i o)).isLt (by norm_num)), Fin.val_inj]
  rfl

/-- An object that takes an anchor over. -/
theorem takes_eq (i o : Fin 32) (a : Fin 24564) :
    val_main_v104 (F := Ideal) x2 x4 (ix3 i o a) = 1#1 ↔ Takes (q i) o a := by
  refine Eq.to_iff (congrArg (· = 1#1) (takes_at i o a (val_main_v96 (F := Ideal) x2 x4)
    (val_main_v79 (F := Ideal) x2 x4) (val_main_v81 (F := Ideal) x2 x4))) |>.trans ?_
  rw [reach_eq x2 x4 q hq, best_eq x2 x4 q hq, and_one, claim_eq x2 x4 q hq, ofBool_one, decide_eq_true_iff]
  rfl

/-- The positive anchors. -/
theorem pos_eq (i : Fin 32) (a : Fin 24564) : val_main_v98 (F := Ideal) x2 x4 (ix2 i a) = 1#1 ↔ Pos (q i) a := by
  refine Eq.to_iff (congrArg (· = 1#1) (pos_at i a (val_main_v96 (F := Ideal) x2 x4)
    (val_main_v81 (F := Ideal) x2 x4))) |>.trans ?_
  rw [best_eq x2 x4 q hq, or_one, ofBool_one, decide_eq_true_iff, Routing.fold_ori]
  simp only [claim_eq x2 x4 q hq, mem_univ, true_and]
  rfl

/-- The object an anchor is matched with. -/
theorem obj_eq (i : Fin 32) (a : Fin 24564) :
    val_main_v111 (F := Ideal) x2 x4 (ix2 i a) = BitVec.ofNat 32 (obj (q i) a) := by
  refine (obj_at i a (val_main_v108 (F := Ideal) x2 x4) (val_main_v83 (F := Ideal) x2 x4)).trans ?_
  rw [choice_eq x2 x4 q hq, show val_main_v108 (F := Ideal) x2 x4 (ix2 i a) = _ from
    last_at i a (val_main_v104 (F := Ideal) x2 x4)]
  exact last_match (q i) a _ (fun o => takes_eq x2 x4 q hq i o a) _ rfl

end Cert.ReferenceIdeal.Image

end
-- ==== Proof.RefGather.lean ====
/- The reference's three lookups: an object's box or label at each anchor, and a class's score. -/
module

public import proofs.«01_k».proof.Proof.RefMatch

@[expose] public section

noncomputable section

namespace Cert.ReferenceIdeal.Image

open Finset Idealize.ShloMosaic Cert.ReferenceIdeal.Read Cert.ReferenceIdeal.Gen Cert.Mbl

/-- A lookup's dimension numbers. -/
abbrev keptDims (b n m c : ℕ)
    (wf : GatherDims.WF ⟨3, ![b, n, c]⟩ ⟨3, ![b, m, 1]⟩ ⟨3, ![b, m, c]⟩ [2] [1] [0] [1] [0] 2 ![1, 1, c]) :
    GatherDims ⟨3, ![b, n, c]⟩ ⟨3, ![b, m, 1]⟩ ⟨3, ![b, m, c]⟩ :=
  ⟨[2], [1], [0], [0], [1], 2, ![1, 1, c], wf⟩

/-- A lookup, batched over the first axis, along the second axis, keeping the third. -/
theorem take_kept {α : Type} {b n m c : ℕ}
    (wf : GatherDims.WF ⟨3, ![b, n, c]⟩ ⟨3, ![b, m, 1]⟩ ⟨3, ![b, m, c]⟩ [2] [1] [0] [1] [0] 2 ![1, 1, c])
    (x : (⟨3, ![b, n, c]⟩ : Shape).Idx → α) (w : IVec ⟨3, ![b, m, 1]⟩ 32) (i : Fin b) (a : Fin m) (k : Fin c) (r : Fin n)
    (hr : min (w (ix3 i a 0)).toInt.toNat (n - 1) = r) :
    Host.gather (keptDims b n m c wf)
      x w (ix3 i a k) = x (ix3 i r k) := by
  unfold Host.gather
  refine congrArg x (funext fun d => Fin.ext ?_)
  unfold GatherDims.operandIdx
  match d with
  | ⟨0, _⟩ => exact (show 0 + i.val + 0 = i.val by omega)
  | ⟨1, _⟩ =>
    refine (congrArg (fun z => min (w z).toInt.toNat (n - 1) + 0 + 0)
      (show (keptDims b n m c wf).siIdx (ix3 i a k) ⟨0, Nat.one_pos⟩ = ix3 i a 0 from ?_)).trans hr
    funext e
    match e with
    | ⟨0, _⟩ => rfl
    | ⟨1, _⟩ => rfl
    | ⟨2, _⟩ => rfl
  | ⟨2, _⟩ => exact (show 0 + 0 + k.val = k.val by omega)

/-- A lookup's dimension numbers. -/
abbrev flatDims (b n m : ℕ)
    (wf : GatherDims.WF ⟨2, ![b, n]⟩ ⟨3, ![b, m, 1]⟩ ⟨2, ![b, m]⟩ [] [1] [0] [1] [0] 2 ![1, 1]) :
    GatherDims ⟨2, ![b, n]⟩ ⟨3, ![b, m, 1]⟩ ⟨2, ![b, m]⟩ :=
  ⟨[], [1], [0], [0], [1], 2, ![1, 1], wf⟩

/-- A lookup, batched over the first axis, along the second axis. -/
theorem take_flat {α : Type} {b n m : ℕ}
    (wf : GatherDims.WF ⟨2, ![b, n]⟩ ⟨3, ![b, m, 1]⟩ ⟨2, ![b, m]⟩ [] [1] [0] [1] [0] 2 ![1, 1])
    (x : (⟨2, ![b, n]⟩ : Shape).Idx → α) (w : IVec ⟨3, ![b, m, 1]⟩ 32) (i : Fin b) (a : Fin m) (r : Fin n)
    (hr : min (w (ix3 i a 0)).toInt.toNat (n - 1) = r) :
    Host.gather (flatDims b n m wf)
      x w (ix2 i a) = x (ix2 i r) := by
  unfold Host.gather
  refine congrArg x (funext fun d => Fin.ext ?_)
  unfold GatherDims.operandIdx
  match d with
  | ⟨0, _⟩ => exact (show 0 + i.val + 0 = i.val by omega)
  | ⟨1, _⟩ =>
    refine (congrArg (fun z => min (w z).toInt.toNat (n - 1) + 0 + 0)
      (show (flatDims b n m wf).siIdx (ix2 i a) ⟨0, Nat.one_pos⟩ = ix3 i a 0 from ?_)).trans hr
    funext e
    match e with
    | ⟨0, _⟩ => rfl
    | ⟨1, _⟩ => rfl
    | ⟨2, _⟩ => rfl

/-- A lookup's dimension numbers. -/
abbrev lastDims (b n m : ℕ)
    (wf : GatherDims.WF ⟨3, ![b, m, n]⟩ ⟨4, ![b, m, 1, 1]⟩ ⟨3, ![b, m, 1]⟩ [] [2] [0, 1] [2] [0, 1] 3 ![1, 1, 1]) :
    GatherDims ⟨3, ![b, m, n]⟩ ⟨4, ![b, m, 1, 1]⟩ ⟨3, ![b, m, 1]⟩ :=
  ⟨[], [2], [0, 1], [0, 1], [2], 3, ![1, 1, 1], wf⟩

/-- A lookup, batched over the first two axes, along the third. -/
theorem take_last {α : Type} {b n m : ℕ}
    (wf : GatherDims.WF ⟨3, ![b, m, n]⟩ ⟨4, ![b, m, 1, 1]⟩ ⟨3, ![b, m, 1]⟩ [] [2] [0, 1] [2] [0, 1] 3 ![1, 1, 1])
    (x : (⟨3, ![b, m, n]⟩ : Shape).Idx → α) (w : IVec ⟨4, ![b, m, 1, 1]⟩ 32) (i : Fin b) (a : Fin m) (r : Fin n)
    (hr : min (w (ix4 i a 0 0)).toInt.toNat (n - 1) = r) :
    Host.gather (lastDims b n m wf)
      x w (ix3 i a 0) = x (ix3 i a r) := by
  unfold Host.gather
  refine congrArg x (funext fun d => Fin.ext ?_)
  unfold GatherDims.operandIdx
  match d with
  | ⟨0, _⟩ => exact (show 0 + i.val + 0 = i.val by omega)
  | ⟨1, _⟩ => exact (show 0 + a.val + 0 = a.val by omega)
  | ⟨2, _⟩ =>
    refine (congrArg (fun z => min (w z).toInt.toNat (n - 1) + 0 + 0)
      (show (lastDims b n m wf).siIdx (ix3 i a 0) ⟨0, Nat.one_pos⟩ = ix4 i a 0 0 from ?_)).trans hr
    funext e
    match e with
    | ⟨0, _⟩ => rfl
    | ⟨1, _⟩ => rfl
    | ⟨2, _⟩ => rfl
    | ⟨3, _⟩ => rfl

/-! Words: a position in range is left alone, passes its check and is read as itself. -/

theorem object_word (k : Fin 32) : Scalar.select (IntOp.cmpi .slt (BitVec.ofNat 32 (k : ℕ)) 0#32)
    (IntOp.addi (BitVec.ofNat 32 (k : ℕ)) 32#32) (BitVec.ofNat 32 (k : ℕ)) = BitVec.ofNat 32 (k : ℕ) := by
  revert k; decide

theorem object_check (k : Fin 32) : IntOp.andi (IntOp.cmpi .sge (BitVec.ofNat 32 (k : ℕ)) 0#32)
    (IntOp.cmpi .sle (BitVec.ofNat 32 (k : ℕ)) 31#32) = 1#1 := by
  revert k; decide

theorem object_read (k : Fin 32) : min (BitVec.ofNat 32 (k : ℕ)).toInt.toNat (32 - 1) = k := by
  revert k; decide

theorem class_word (k : Fin 21) : Scalar.select (IntOp.cmpi .slt (BitVec.ofNat 32 (k : ℕ)) 0#32)
    (IntOp.addi (BitVec.ofNat 32 (k : ℕ)) 21#32) (BitVec.ofNat 32 (k : ℕ)) = BitVec.ofNat 32 (k : ℕ) := by
  revert k; decide

theorem class_check (k : Fin 21) : IntOp.andi (IntOp.cmpi .sge (BitVec.ofNat 32 (k : ℕ)) 0#32)
    (IntOp.cmpi .sle (BitVec.ofNat 32 (k : ℕ)) 20#32) = 1#1 := by
  revert k; decide

theorem class_read (k : Fin 21) : min (BitVec.ofNat 32 (k : ℕ)).toInt.toNat (21 - 1) = k := by
  revert k; decide

theorem label_word (k : Fin 20) (z : BitVec 32) : Scalar.select 1#1 (IntOp.addi (Scalar.select 1#1
    (BitVec.ofNat 32 (k : ℕ)) z) 1#32) 0#32 = BitVec.ofNat 32 (k.succ : ℕ) :=
  (show _ = IntOp.addi (BitVec.ofNat 32 (k : ℕ)) 1#32 from rfl).trans (by revert k; decide)

/-- A conjunction over one place. -/
theorem fold_one (f : Fin 1 → BitVec 1) : fold IntOp.andi 1#1 f univ = f 0 := by
  rw [show (univ : Finset (Fin 1)) = {0} from rfl, fold_singleton]
  rcases BitVec.eq_zero_or_eq_one (f 0) with h | h <;> rw [h] <;> rfl

/-! The single operations, over any arrays. -/

section

variable (i : Fin 32) (a : Fin 24564)

theorem spread_at (w : IVec S32x24564 32) :
    broadcastInDim S32x24564x1 ![0, 1] bcast_S32x24564_S32x24564x1_0_1 w (ix3 i a 0) = w (ix2 i a) := by
  pointwise

theorem wrap_at (w : IVec S32x24564x1 32) :
    select (cmpi .slt w (val_main_call2_v0 (F := Ideal))) (addi w (val_main_call2_v2 (F := Ideal))) w (ix3 i a 0) =
      Scalar.select (IntOp.cmpi .slt (w (ix3 i a 0)) 0#32) (IntOp.addi (w (ix3 i a 0)) 32#32) (w (ix3 i a 0)) := by
  pointwise [val_main_call2_v0, val_main_call2_v2, val_main_call2_c, val_main_call2_c_0]

theorem check_at (w : IVec S32x24564x1 32) :
    Host.reduce IntOp.andi (andi (cmpi .sge w (val_main_call2_v5 (F := Ideal))) (cmpi .sle w (val_main_call2_v8 (F := Ideal))))
      (val_main_call2_c_3 (F := Ideal)) reducesTo_S32x24564x1_S32x24564_d2 h_S_ (ix2 i a) =
      fold IntOp.andi 1#1 (fun x : Fin 1 => IntOp.andi (IntOp.cmpi .sge (w (ix3 i a x)) 0#32)
        (IntOp.cmpi .sle (w (ix3 i a x)) 31#32)) univ := by
  pointwise [val_main_call2_v5, val_main_call2_v8, val_main_call2_v7, val_main_call2_c_1, val_main_call2_c_2,
    val_main_call2_c_3]

theorem pick_at (b : IVec S32x24564 1) (g : FVec Ideal S32x24564x4 .f32) (d : Fin 4) :
    select (broadcastInDim S32x24564x4 ![0, 1] bcast_S32x24564_S32x24564x4_0_1 b) g (val_main_call2_v14 (F := Ideal))
      (ix3 i a d) = Scalar.select (b (ix2 i a)) (g (ix3 i a d)) (val_main_call2_v14 (F := Ideal) (ix3 i a d)) := by
  pointwise

theorem wrap_label_at (w : IVec S32x24564 32) :
    shapeCast S32x24564x1 (select (cmpi .slt w (val_main_call3_v0 (F := Ideal))) (addi w (val_main_call3_v2 (F := Ideal))) w)
      shapeCasts_S32x24564_S32x24564x1 (ix3 i a 0) =
      Scalar.select (IntOp.cmpi .slt (w (ix2 i a)) 0#32) (IntOp.addi (w (ix2 i a)) 32#32) (w (ix2 i a)) := by
  pointwise [val_main_call3_v0, val_main_call3_v2, val_main_call3_c, val_main_call3_c_0]

theorem check_label_at (w : IVec S32x24564x1 32) :
    Host.reduce IntOp.andi (andi (cmpi .sge w (val_main_call3_v6 (F := Ideal))) (cmpi .sle w (val_main_call3_v9 (F := Ideal))))
      (val_main_call3_c_3 (F := Ideal)) reducesTo_S32x24564x1_S32x24564_d2 h_S_ (ix2 i a) =
      fold IntOp.andi 1#1 (fun x : Fin 1 => IntOp.andi (IntOp.cmpi .sge (w (ix3 i a x)) 0#32)
        (IntOp.cmpi .sle (w (ix3 i a x)) 31#32)) univ := by
  pointwise [val_main_call3_v6, val_main_call3_v9, val_main_call3_v8, val_main_call3_c_1, val_main_call3_c_2,
    val_main_call3_c_3]

theorem class_at (p : IVec S32x24564 1) (b : IVec S32x24564 1) (g : IVec S32x24564 32) :
    select p (addi (select b g (val_main_call3_v14 (F := Ideal))) (val_main_v115 (F := Ideal)))
      (val_main_call4_v1 (F := Ideal)) (ix2 i a) = Scalar.select (p (ix2 i a)) (IntOp.addi (Scalar.select (b (ix2 i a))
        (g (ix2 i a)) (val_main_call3_v14 (F := Ideal) (ix2 i a))) 1#32) 0#32 := by
  pointwise [val_main_v115, val_main_c_13, val_main_call4_v1, val_main_call4_v0, val_main_c_16]
  rfl

theorem wrap_class_at (w : IVec S32x24564x1 32) :
    shapeCast S32x24564x1x1 (select (cmpi .slt w (val_main_call7_v0 (F := Ideal))) (addi w (val_main_call7_v2 (F := Ideal))) w)
      shapeCasts_S32x24564x1_S32x24564x1x1 (ix4 i a 0 0) =
      Scalar.select (IntOp.cmpi .slt (w (ix3 i a 0)) 0#32) (IntOp.addi (w (ix3 i a 0)) 21#32) (w (ix3 i a 0)) := by
  pointwise [val_main_call7_v0, val_main_call7_v2, val_main_call7_c, val_main_call7_c_0]

theorem check_class_at (w : IVec S32x24564x1x1 32) :
    Host.reduce IntOp.andi (andi (cmpi .sge w (val_main_call7_v6 (F := Ideal))) (cmpi .sle w (val_main_call7_v9 (F := Ideal))))
      (val_main_call7_c_3 (F := Ideal)) reducesTo_S32x24564x1x1_S32x24564x1_d3 h_S_ (ix3 i a 0) =
      fold IntOp.andi 1#1 (fun x : Fin 1 => IntOp.andi (IntOp.cmpi .sge (w (ix4 i a 0 x)) 0#32)
        (IntOp.cmpi .sle (w (ix4 i a 0 x)) 20#32)) univ := by
  pointwise [val_main_call7_v6, val_main_call7_v9, val_main_call7_v8, val_main_call7_c_1, val_main_call7_c_2,
    val_main_call7_c_3]

theorem minus_at (b : IVec S32x24564x1 1) (g : FVec Ideal S32x24564x1 .f32) :
    Host.negf (shapeCast S32x24564 (select b g (val_main_call7_v14 (F := Ideal))) shapeCasts_S32x24564x1_S32x24564)
      (ix2 i a) = -(Scalar.select (b (ix3 i a 0)) (g (ix3 i a 0)) (val_main_call7_v14 (F := Ideal) (ix3 i a 0))) := by
  pointwise

end

/-! The reference's arrays. -/

section

variable (x2 : FVec Ideal S32x32x4 .f32) (x3 : IVec S32x32 32) (x4 : FVec Ideal S24564x4 .f32)
  (q : Fin 32 → Fin 32 → Fin 24564 → EReal)
  (hq : ∀ i o a, val_main_v78 (F := Ideal) x2 x4 (ix3 i o a) = q i o a)

include hq

/-- The box an anchor is matched with. -/
theorem box_eq (i : Fin 32) (a : Fin 24564) (d : Fin 4) :
    val_main_v113 (F := Ideal) x2 x4 (ix3 i a d) = x2 (ix3 i (obj (q i) a) d) := by
  have hw : val_main_call2_v4 (F := Ideal) x2 x4 (ix3 i a 0) = BitVec.ofNat 32 (obj (q i) a) := by
    refine (wrap_at i a (val_main_v112 (F := Ideal) x2 x4)).trans ?_
    rw [show val_main_v112 (F := Ideal) x2 x4 (ix3 i a 0) = _ from
      (spread_at i a (val_main_v111 (F := Ideal) x2 x4)).trans (obj_eq x2 x4 q hq i a), object_word]
  refine (pick_at i a (val_main_call2_v11 (F := Ideal) x2 x4) (val_main_call2_v12 (F := Ideal) x2 x4) d).trans ?_
  rw [show val_main_call2_v11 (F := Ideal) x2 x4 (ix2 i a) = _ from
    (check_at i a (val_main_call2_v4 (F := Ideal) x2 x4)).trans (fold_one _), hw, object_check]
  exact take_kept (b := 32) (n := 32) (m := 24564) (c := 4) _ x2 (val_main_call2_v4 (F := Ideal) x2 x4) i a d (obj (q i) a)
    (by rw [hw]; exact object_read _)

/-- An anchor's class as a word. -/
theorem class_eq (l : Fin 32 → Fin 32 → Fin 20) (hl : IsLabels x3 l) (i : Fin 32) (a : Fin 24564) :
    val_main_v145 (F := Ideal) x2 x3 x4 (ix2 i a) = BitVec.ofNat 32 (cls (q i) (l i) a) := by
  have hw : val_main_call3_v5 (F := Ideal) x2 x4 (ix3 i a 0) = BitVec.ofNat 32 (obj (q i) a) := by
    refine (wrap_label_at i a (val_main_v111 (F := Ideal) x2 x4)).trans ?_
    rw [obj_eq x2 x4 q hq i a, object_word]
  refine (class_at i a (val_main_v98 (F := Ideal) x2 x4) (val_main_call3_v12 (F := Ideal) x2 x4)
    (val_main_call3_v13 (F := Ideal) x2 x3 x4)).trans ?_
  have hg : val_main_call3_v13 (F := Ideal) x2 x3 x4 (ix2 i a) = BitVec.ofNat 32 (l i (obj (q i) a)) := by
    exact (take_flat (b := 32) (n := 32) (m := 24564) _ x3 (val_main_call3_v5 (F := Ideal) x2 x4) i a (obj (q i) a)
      (by rw [hw]; exact object_read _)).trans (hl _ _)
  rw [show val_main_call3_v12 (F := Ideal) x2 x4 (ix2 i a) = _ from
    (check_label_at i a (val_main_call3_v5 (F := Ideal) x2 x4)).trans (fold_one _), hw, object_check, hg]
  unfold cls
  by_cases hp : Pos (q i) a
  · rw [(pos_eq x2 x4 q hq i a).2 hp, if_pos hp]
    exact label_word _ _
  · rw [(BitVec.eq_zero_or_eq_one _).resolve_right fun h => hp ((pos_eq x2 x4 q hq i a).1 h), if_neg hp]
    rfl

/-- An anchor's loss is what the log-softmax leaves at its class, negated. -/
theorem pick_class (x1 : FVec Ideal S32x24564x21 .f32) (l : Fin 32 → Fin 32 → Fin 20) (hl : IsLabels x3 l) (i : Fin 32)
    (a : Fin 24564) : val_main_v164 (F := Ideal) x1 x2 x3 x4 (ix2 i a) =
      -(val_main_v160 (F := Ideal) x1 (ix3 i a (cls (q i) (l i) a))) := by
  have hw : val_main_call7_v5 (F := Ideal) x2 x3 x4 (ix4 i a 0 0) = BitVec.ofNat 32 (cls (q i) (l i) a) := by
    refine (wrap_class_at i a (val_main_v161 (F := Ideal) x2 x3 x4)).trans ?_
    rw [show val_main_v161 (F := Ideal) x2 x3 x4 (ix3 i a 0) = _ from
      (spread_at i a (val_main_v145 (F := Ideal) x2 x3 x4)).trans (class_eq x2 x3 x4 q hq l hl i a), class_word]
  refine (minus_at i a (val_main_call7_v12 (F := Ideal) x2 x3 x4) (val_main_call7_v13 (F := Ideal) x1 x2 x3 x4)).trans ?_
  rw [show val_main_call7_v12 (F := Ideal) x2 x3 x4 (ix3 i a 0) = _ from
    (check_class_at i a (val_main_call7_v5 (F := Ideal) x2 x3 x4)).trans (fold_one _), hw, class_check]
  exact congrArg (fun z : EReal => -z) (take_last _ (val_main_v160 (F := Ideal) x1)
    (val_main_call7_v5 (F := Ideal) x2 x3 x4) i a (cls (q i) (l i) a)
    ((congrArg (fun z => min z.toInt.toNat (21 - 1)) hw).trans (class_read _)))

end

end Cert.ReferenceIdeal.Image

end
-- ==== Proof.RefLoc.lean ====
/- The reference's localisation loss. -/
module

public import proofs.«01_k».proof.Proof.RefGather

@[expose] public section

noncomputable section

namespace Cert.ReferenceIdeal.Image

open Finset Idealize.ShloMosaic Cert.ReferenceIdeal.Read Cert.ReferenceIdeal.Gen Cert.Mbl

/-! The single operations, over any arrays. -/

section

variable (i : Fin 32) (a : Fin 24564) (k : Fin 2)

theorem mark_at (b : IVec S32x24564 1) :
    uitofp (F := Ideal) .f32 b (ix2 i a) = (FloatOps.uitofp .f32 (b (ix2 i a)) : Ideal .f32) := by
  pointwise

theorem lower_at (g : FVec Ideal S32x24564x4 .f32) :
    extractStridedSlice S32x24564x2 ![0, 0, 0] g slices_S32x24564x4_S32x24564x2_0_0_0 (ix3 i a k) = g (ix3 i a (lo k)) := by
  pointwise
  rfl

theorem upper_at (g : FVec Ideal S32x24564x4 .f32) :
    extractStridedSlice S32x24564x2 ![0, 0, 2] g slices_S32x24564x4_S32x24564x2_0_0_2 (ix3 i a k) = g (ix3 i a (hi k)) := by
  pointwise
  rfl

theorem pos_anchor_at (x4 : FVec Ideal S24564x4 .f32) :
    broadcastInDim S32x24564x2 ![0, 1, 2] bcast_S1x24564x2_S32x24564x2_0_1_2 (broadcastInDim S1x24564x2 ![1, 2]
      bcast_S24564x2_S1x24564x2_1_2 (extractStridedSlice S24564x2 ![0, 0] x4 slices_S24564x4_S24564x2_0_0)) (ix3 i a k) =
      x4 (ix2 a (lo k)) := by
  pointwise
  rfl

theorem size_anchor_at (x4 : FVec Ideal S24564x4 .f32) :
    broadcastInDim S32x24564x2 ![0, 1, 2] bcast_S1x24564x2_S32x24564x2_0_1_2 (broadcastInDim S1x24564x2 ![1, 2]
      bcast_S24564x2_S1x24564x2_1_2 (extractStridedSlice S24564x2 ![0, 2] x4 slices_S24564x4_S24564x2_0_2)) (ix3 i a k) =
      x4 (ix2 a (hi k)) := by
  pointwise
  rfl

theorem centre_at (u v n z : FVec Ideal S32x24564x2 .f32) :
    Host.divf (subf (Host.divf (addf u v) (val_main_v120 (F := Ideal))) n) z (ix3 i a k) =
      Ideal.div ((u (ix3 i a k) + v (ix3 i a k)) * half - n (ix3 i a k)) (z (ix3 i a k)) := by
  pointwise [val_main_v120, val_main_cst_14]
  rw [halve]

theorem size_at (u v z : FVec Ideal S32x24564x2 .f32) :
    Host.log (addf (Host.divf (subf u v) z) (val_main_v137 (F := Ideal))) (ix3 i a k) =
      Ideal.log (Ideal.div (u (ix3 i a k) - v (ix3 i a k)) (z (ix3 i a k)) + eps) := by
  pointwise [val_main_v137, val_main_cst_15]
  rfl

theorem join_lo_at (u v : FVec Ideal S32x24564x2 .f32) :
    concatenate S32x24564x4 2 [⟨S32x24564x2, u⟩, ⟨S32x24564x2, v⟩] concatenates_S32x24564x2_S32x24564x2_S32x24564x4_d2
      (ix3 i a (lo k)) = u (ix3 i a k) := by
  unfold lo
  match k with
  | ⟨0, _⟩ => pointwise
  | ⟨1, _⟩ => pointwise

theorem join_hi_at (u v : FVec Ideal S32x24564x2 .f32) :
    concatenate S32x24564x4 2 [⟨S32x24564x2, u⟩, ⟨S32x24564x2, v⟩] concatenates_S32x24564x2_S32x24564x2_S32x24564x4_d2
      (ix3 i a (hi k)) = v (ix3 i a k) := by
  unfold hi
  match k with
  | ⟨0, _⟩ => pointwise
  | ⟨1, _⟩ => pointwise

theorem masked_at (t : FVec Ideal S32x24564x4 .f32) (m : FVec Ideal S32x24564 .f32) (d : Fin 4) :
    mulf t (broadcastInDim S32x24564x4 ![0, 1, 2] bcast_S32x24564x1_S32x24564x4_0_1_2
      (broadcastInDim S32x24564x1 ![0, 1] bcast_S32x24564_S32x24564x1_0_1 m)) (ix3 i a d) =
      t (ix3 i a d) * m (ix2 i a) := by
  pointwise

theorem smooth_at (e : FVec Ideal S32x24564x4 .f32) (d : Fin 4) :
    select (cmpf .olt (Host.absf e) (val_main_v148 (F := Ideal))) (mulf (mulf (val_main_v150 (F := Ideal)) e) e)
      (subf (Host.absf e) (val_main_v153 (F := Ideal))) (ix3 i a d) = smooth (e (ix3 i a d)) := by
  pointwise [val_main_v148, val_main_v150, val_main_v153, val_main_cst_17, val_main_cst_18, val_main_cst_19]
  rfl

theorem total_at (t : FVec Ideal S32x24564x4 .f32) :
    Host.reduceAdd t (val_main_cst_20 (F := Ideal)) reducesTo_S32x24564x4_S_d0_1_2 h_S_ ix0 =
      ∑ i : Fin 32, ∑ a : Fin 24564, ∑ d : Fin 4, t (ix3 i a d) := by
  pointwise [val_main_cst_20]

end

theorem add_crossed (x y z w : EReal) : x + y + z + w = x + z + (y + w) := by
  rw [add_assoc x y z, add_comm y z, ← add_assoc x z y, add_assoc]

/-! The reference's arrays. -/

section

variable (x0 : FVec Ideal S32x24564x4 .f32) (x2 : FVec Ideal S32x32x4 .f32) (x4 : FVec Ideal S24564x4 .f32)
  (q : Fin 32 → Fin 32 → Fin 24564 → EReal)
  (hq : ∀ i o a, val_main_v78 (F := Ideal) x2 x4 (ix3 i o a) = q i o a)

include hq

theorem mark_eq (i : Fin 32) (a : Fin 24564) : val_main_v140 (F := Ideal) x2 x4 (ix2 i a) = mark (q i) a := by
  refine (mark_at i a (val_main_v98 (F := Ideal) x2 x4)).trans ?_
  unfold mark
  by_cases hp : Pos (q i) a
  · rw [(pos_eq x2 x4 q hq i a).2 hp, if_pos hp]
    show (((1#1 : BitVec 1).toNat : ℝ) : EReal) = 1
    simp
  · rw [(BitVec.eq_zero_or_eq_one _).resolve_right fun h => hp ((pos_eq x2 x4 q hq i a).1 h), if_neg hp]
    show (((0#1 : BitVec 1).toNat : ℝ) : EReal) = 0
    simp

/-- The offsets the predictions are compared with: centres. -/
theorem aim_lo (i : Fin 32) (a : Fin 24564) (k : Fin 2) : val_main_v141 (F := Ideal) x2 x4 (ix3 i a (lo k)) =
    centre (argBoxes x2 i (obj (q i) a)) (fun d => argAnchors x4 d a) k := by
  refine (join_lo_at i a k (val_main_v132 (F := Ideal) x2 x4) (val_main_v139 (F := Ideal) x2 x4)).trans ?_
  refine (centre_at i a k (val_main_v117 (F := Ideal) x2 x4) (val_main_v118 (F := Ideal) x2 x4)
    (val_main_v127 (F := Ideal) x4) (val_main_v131 (F := Ideal) x4)).trans ?_
  rw [show val_main_v117 (F := Ideal) x2 x4 (ix3 i a k) = _ from
      (lower_at i a k (val_main_v113 (F := Ideal) x2 x4)).trans (box_eq x2 x4 q hq i a _),
    show val_main_v118 (F := Ideal) x2 x4 (ix3 i a k) = _ from
      (upper_at i a k (val_main_v113 (F := Ideal) x2 x4)).trans (box_eq x2 x4 q hq i a _),
    show val_main_v127 (F := Ideal) x4 (ix3 i a k) = _ from pos_anchor_at i a k x4,
    show val_main_v131 (F := Ideal) x4 (ix3 i a k) = _ from size_anchor_at i a k x4]
  rfl

/-- The offsets the predictions are compared with: sizes. -/
theorem aim_hi (i : Fin 32) (a : Fin 24564) (k : Fin 2) : val_main_v141 (F := Ideal) x2 x4 (ix3 i a (hi k)) =
    size (argBoxes x2 i (obj (q i) a)) (fun d => argAnchors x4 d a) k := by
  refine (join_hi_at i a k (val_main_v132 (F := Ideal) x2 x4) (val_main_v139 (F := Ideal) x2 x4)).trans ?_
  refine (size_at i a k (val_main_v122 (F := Ideal) x2 x4) (val_main_v123 (F := Ideal) x2 x4)
    (val_main_v135 (F := Ideal) x4)).trans ?_
  rw [show val_main_v122 (F := Ideal) x2 x4 (ix3 i a k) = _ from
      (upper_at i a k (val_main_v113 (F := Ideal) x2 x4)).trans (box_eq x2 x4 q hq i a _),
    show val_main_v123 (F := Ideal) x2 x4 (ix3 i a k) = _ from
      (lower_at i a k (val_main_v113 (F := Ideal) x2 x4)).trans (box_eq x2 x4 q hq i a _),
    show val_main_v135 (F := Ideal) x4 (ix3 i a k) = _ from size_anchor_at i a k x4]
  rfl

/-- One coordinate's loss. -/
theorem term_eq (i : Fin 32) (a : Fin 24564) (d : Fin 4) : val_main_v158 (F := Ideal) x0 x2 x4 (ix3 i a d) =
    smooth (x0 (ix3 i a d) - val_main_v141 (F := Ideal) x2 x4 (ix3 i a d) * mark (q i) a) * mark (q i) a := by
  refine (masked_at i a (val_main_v155 (F := Ideal) x0 x2 x4) (val_main_v140 (F := Ideal) x2 x4) d).trans ?_
  rw [mark_eq x2 x4 q hq, show val_main_v155 (F := Ideal) x0 x2 x4 (ix3 i a d) = _ from
    smooth_at i a (val_main_v146 (F := Ideal) x0 x2 x4) d]
  refine congrArg (fun t : EReal => smooth (x0 (ix3 i a d) - t) * mark (q i) a) ?_
  refine (masked_at i a (val_main_v141 (F := Ideal) x2 x4) (val_main_v140 (F := Ideal) x2 x4) d).trans ?_
  rw [mark_eq x2 x4 q hq]

/-- An anchor's loss: at a positive anchor the masks are ones, at another everything vanishes. -/
theorem anchor_eq (i : Fin 32) (a : Fin 24564) : ∑ d : Fin 4, val_main_v158 (F := Ideal) x0 x2 x4 (ix3 i a d) =
    ∑ k : Fin 2, offLoss (q i) (argBoxes x2 i) (argAnchors x4) (argOffsets x0 i) k a * mark (q i) a := by
  simp only [term_eq x0 x2 x4 q hq]
  by_cases hp : Pos (q i) a
  · simp only [mark, if_pos hp, mul_one]
    rw [Fin.sum_univ_four, Fin.sum_univ_two]
    unfold offLoss
    rw [← aim_lo x2 x4 q hq i a 0, ← aim_lo x2 x4 q hq i a 1, ← aim_hi x2 x4 q hq i a 0, ← aim_hi x2 x4 q hq i a 1]
    exact add_crossed _ _ _ _
  · simp only [mark, if_neg hp, mul_zero, sum_const_zero]

/-- The reference's localisation loss is the sum of the images'. -/
theorem loc_eq : val_main_v159 (F := Ideal) x0 x2 x4 ix0 =
    ∑ i : Fin 32, locLoss (q i) (argBoxes x2 i) (argAnchors x4) (argOffsets x0 i) := by
  refine Eq.trans (b := ∑ i : Fin 32, ∑ a : Fin 24564, ∑ d : Fin 4, val_main_v158 (F := Ideal) x0 x2 x4 (ix3 i a d))
    (total_at (val_main_v158 (F := Ideal) x0 x2 x4)) (sum_congr rfl fun i _ => ?_)
  unfold locLoss
  refine Eq.trans (sum_congr rfl fun a _ => anchor_eq x0 x2 x4 q hq i a) ?_
  exact sum_comm

end

end Cert.ReferenceIdeal.Image

end
-- ==== Proof.RefConf.lean ====
/- The reference's classification losses: the positive anchors' and those that are mined. -/
module

public import proofs.«01_k».proof.Proof.RefLoc

@[expose] public section

noncomputable section

namespace Cert.ReferenceIdeal.Image

open Finset Idealize.ShloMosaic Cert.ReferenceIdeal.Read Cert.ReferenceIdeal.Gen Cert.Mbl

/-- The stable log-softmax of finite scores, negated, is the logarithm of the sum of exponentials less the score:
    the subtracted maximum cancels. -/
theorem softmax_cancel (x : Fin 21 → EReal) (hx : ∀ c, ∃ r : ℝ, x c = r) (c : Fin 21) :
    -((x c - max ⊥ (univ.sup x)) - Ideal.log (∑ d, Ideal.exp (x d - max ⊥ (univ.sup x)))) =
      Ideal.log (∑ d, Ideal.exp (x d)) - x c := by
  choose r hr using hx
  obtain ⟨j, -, hj⟩ := exists_mem_eq_sup (univ : Finset (Fin 21)) ⟨c, mem_univ c⟩ x
  rw [max_eq_right bot_le, hj]
  simp only [hr, ← EReal.coe_sub, Ideal.exp_coe]
  have h1 : 0 < ∑ d, Real.exp (r d) := sum_pos (fun _ _ => Real.exp_pos _) ⟨c, mem_univ c⟩
  have h2 : 0 < ∑ d, Real.exp (r d - r j) := sum_pos (fun _ _ => Real.exp_pos _) ⟨c, mem_univ c⟩
  rw [← coe_sum, ← coe_sum, Ideal.log_coe, Ideal.log_coe, if_neg (not_le.2 h1), if_neg (not_le.2 h2)]
  have h3 : ∑ d, Real.exp (r d - r j) = (∑ d, Real.exp (r d)) * Real.exp (-r j) := by
    rw [sum_mul]
    exact sum_congr rfl fun d _ => by rw [← Real.exp_add, sub_eq_add_neg]
  rw [h3, Real.log_mul h1.ne' (Real.exp_pos _).ne', Real.log_exp, ← EReal.coe_sub, ← EReal.coe_neg, ← EReal.coe_sub]
  congr 1
  ring

theorem word_zero : Ideal.ofBits .f32 0#32 = 0 := by simp [Ideal.ofBits, Ideal.ieee]

/-! The single operations, over any arrays. -/

section

variable (i : Fin 32) (a : Fin 24564)

theorem greatest_at (x : FVec Ideal S32x24564x21 .f32) :
    Host.reduce FloatOps.maximumf x (val_main_call6_cst (F := Ideal)) reducesTo_S32x24564x21_S32x24564_d2 h_S_ (ix2 i a) =
      univ.sup fun c => x (ix3 i a c) := by
  pointwise [val_main_call6_cst]
  rw [word_bot]
  rfl

theorem floor_at (w : FVec Ideal S32x24564 .f32) :
    maximumf (val_main_call6_v1 (F := Ideal)) w (ix2 i a) = max (Ideal.ofBits .f32 0xFF800000#32) (w (ix2 i a)) := by
  pointwise [val_main_call6_v1, val_main_call6_cst_0]

theorem shift_at (x : FVec Ideal S32x24564x21 .f32) (m : FVec Ideal S32x24564 .f32) (c : Fin 21) :
    subf x (broadcastInDim S32x24564x21 ![0, 1, 2] bcast_S32x24564x1_S32x24564x21_0_1_2
      (broadcastInDim S32x24564x1 ![0, 1] bcast_S32x24564_S32x24564x1_0_1 m)) (ix3 i a c) =
      x (ix3 i a c) - m (ix2 i a) := by
  pointwise

theorem normal_at (y : FVec Ideal S32x24564x21 .f32) (c : Fin 21) :
    subf y (broadcastInDim S32x24564x21 ![0, 1, 2] bcast_S32x24564x1_S32x24564x21_0_1_2
      (Host.log (broadcastInDim S32x24564x1 ![0, 1] bcast_S32x24564_S32x24564x1_0_1
        (Host.reduceAdd (Host.exp y) (val_main_call6_cst_1 (F := Ideal)) reducesTo_S32x24564x21_S32x24564_d2 h_S_))))
      (ix3 i a c) = y (ix3 i a c) - Ideal.log (∑ d, Ideal.exp (y (ix3 i a d))) := by
  pointwise [val_main_call6_cst_1]

theorem product_at (t m : FVec Ideal S32x24564 .f32) : mulf t m (ix2 i a) = t (ix2 i a) * m (ix2 i a) := by
  pointwise

theorem without_at (b : IVec S32x24564 1) (t : FVec Ideal S32x24564 .f32) :
    select b (val_main_call8_v1 (F := Ideal)) t (ix2 i a) = Scalar.select (b (ix2 i a)) 0 (t (ix2 i a)) := by
  pointwise [val_main_call8_v1, val_main_call8_v0, val_main_cst_22]
  rw [show id (constant (F := Ideal) S_ .f32 0#32) ix0 = 0 from word_zero]

theorem sum_at (t : FVec Ideal S32x24564 .f32) :
    Host.reduceAdd t (val_main_cst_21 (F := Ideal)) reducesTo_S32x24564_S_d0_1 h_S_ ix0 =
      ∑ i : Fin 32, ∑ a : Fin 24564, t (ix2 i a) := by
  pointwise [val_main_cst_21]

end

/-! The reference's arrays. -/

section

variable (x1 : FVec Ideal S32x24564x21 .f32) (x2 : FVec Ideal S32x32x4 .f32) (x3 : IVec S32x32 32)
  (x4 : FVec Ideal S24564x4 .f32) (q : Fin 32 → Fin 32 → Fin 24564 → EReal)
  (hq : ∀ i o a, val_main_v78 (F := Ideal) x2 x4 (ix3 i o a) = q i o a)
  (l : Fin 32 → Fin 32 → Fin 20) (hl : IsLabels x3 l) (hs : FiniteScores x1)

include hs in
/-- The negated log-softmax. -/
theorem softmax_eq (i : Fin 32) (a : Fin 24564) (c : Fin 21) : -(val_main_v160 (F := Ideal) x1 (ix3 i a c)) =
    Ideal.log (∑ d, Ideal.exp (argScores x1 i d a)) - argScores x1 i c a := by
  have hm : val_main_call6_v2 (F := Ideal) x1 (ix2 i a) = max ⊥ (univ.sup fun c => x1 (ix3 i a c)) :=
    (floor_at i a (val_main_call6_v0 (F := Ideal) x1)).trans (by
      rw [word_bot, show val_main_call6_v0 (F := Ideal) x1 (ix2 i a) = _ from greatest_at i a x1])
  have hy : ∀ d, val_main_call6_v5 (F := Ideal) x1 (ix3 i a d) =
      x1 (ix3 i a d) - max ⊥ (univ.sup fun c => x1 (ix3 i a c)) := fun d =>
    (shift_at i a x1 (val_main_call6_v2 (F := Ideal) x1) d).trans
      (congrArg (fun z : EReal => x1 (ix3 i a d) - z) hm)
  refine (congrArg (fun z : EReal => -z) (normal_at i a (val_main_call6_v5 (F := Ideal) x1) c)).trans ?_
  simp only [hy]
  exact softmax_cancel (fun c => x1 (ix3 i a c)) (fun c => hs i c a) c

include hq hl hs

/-- An anchor's classification loss. -/
theorem loss_eq (i : Fin 32) (a : Fin 24564) : val_main_v164 (F := Ideal) x1 x2 x3 x4 (ix2 i a) =
    clsLoss (q i) (l i) (argScores x1 i) a :=
  (pick_class x2 x3 x4 q hq x1 l hl i a).trans (softmax_eq x1 hs i a _)

/-- The positive anchors' classification loss. -/
theorem conf_eq : val_main_v166 (F := Ideal) x1 x2 x3 x4 ix0 = ∑ i : Fin 32, confLoss (q i) (l i) (argScores x1 i) := by
  refine Eq.trans (b := ∑ i : Fin 32, ∑ a : Fin 24564, val_main_v165 (F := Ideal) x1 x2 x3 x4 (ix2 i a))
    (sum_at (val_main_v165 (F := Ideal) x1 x2 x3 x4)) (sum_congr rfl fun i _ => sum_congr rfl fun a _ => ?_)
  refine (product_at i a (val_main_v164 (F := Ideal) x1 x2 x3 x4) (val_main_v140 (F := Ideal) x2 x4)).trans ?_
  rw [loss_eq x1 x2 x3 x4 q hq l hl hs, mark_eq x2 x4 q hq]

/-- A loss to mine. -/
theorem mined_eq (i : Fin 32) (a : Fin 24564) : val_main_v167 (F := Ideal) x1 x2 x3 x4 (ix2 i a) =
    ((minedR (q i) (l i) (argScores x1 i) a : ℝ) : EReal) := by
  rw [← minedR_eq (q i) (l i) (argScores x1 i) (hs i) a]
  refine (without_at i a (val_main_v98 (F := Ideal) x2 x4) (val_main_v164 (F := Ideal) x1 x2 x3 x4)).trans ?_
  rw [loss_eq x1 x2 x3 x4 q hq l hl hs]
  unfold mined
  by_cases hp : Pos (q i) a
  · rw [(pos_eq x2 x4 q hq i a).2 hp, if_pos hp]
    rfl
  · rw [(BitVec.eq_zero_or_eq_one _).resolve_right fun h => hp ((pos_eq x2 x4 q hq i a).1 h), if_neg hp]
    rfl

end

end Cert.ReferenceIdeal.Image

end
-- ==== Proof.Level.lean ====
/- The sum of the hard negatives' losses, each raised to a grid point at or above the least of them, is what the
   bisection finds. -/
module

public import proofs.«01_k».proof.Proof.Reals

@[expose] public section

noncomputable section

namespace Cert.Mbl

open Finset Idealize.ShloMosaic

/-- The grid's step, for losses of which `p` is the largest. -/
def gridStep (p : EReal) : EReal := (p + 1) * ((1 / 2 ^ 42 : ℝ) : EReal)

/-- The least grid point at or above `t`. -/
def gridPoint (p t : EReal) : EReal := Ideal.liftRound Int.ceil (Ideal.div t (gridStep p)) * gridStep p

theorem gridStep_coe (p : ℝ) : gridStep (p : EReal) = (((p + 1) / 2 ^ 42 : ℝ) : EReal) := by
  rw [gridStep, show (1 : EReal) = ((1 : ℝ) : EReal) from rfl, ← EReal.coe_add, ← EReal.coe_mul, mul_one_div]

theorem gridPoint_coe {p t : ℝ} (h : p + 1 ≠ 0) :
    gridPoint (p : EReal) (t : EReal) = (((⌈t / ((p + 1) / 2 ^ 42)⌉ : ℝ) * ((p + 1) / 2 ^ 42) : ℝ) : EReal) := by
  have hd : (p + 1) / 2 ^ 42 ≠ 0 := div_ne_zero h (by positivity)
  rw [gridPoint, gridStep_coe, Ideal.div_coe hd, ← EReal.coe_mul, mul_one_div, Ideal.liftRound_coe, ← EReal.coe_mul]

/-- Of `k` losses `S` none of which any other exceeds, each raised to the grid point of the least. -/
theorem hard_level (v : Fin 24564 → ℝ) (hv : ∀ a, 0 ≤ v a) (k : ℕ) (h0 : k ≤ Bisect.above v 0) (S : Finset (Fin 24564))
    (hS : S.card = k) (hdom : ∀ a ∈ S, ∀ b ∉ S, v b ≤ v a) :
    (∑ a, if a ∈ S then max (v a : EReal) (gridPoint (univ.sup fun b => (v b : EReal))
      (univ.inf fun b => if b ∈ S then (v b : EReal) else ⊤)) else 0) = ((hard v k : ℝ) : EReal) := by
  have hp : 0 < peak v + 1 := by
    have := (hv ⟨0, by omega⟩).trans (le_peak v ⟨0, by omega⟩)
    linarith
  have hlt : ∀ a, v a < peak v + 1 := fun a => by linarith [le_peak v a]
  obtain ⟨t, htS, ht, hinf⟩ : ∃ t, (S.Nonempty → ∃ a ∈ S, v a = t) ∧ (∀ a ∈ S, t ≤ v a) ∧
      (S.Nonempty → (univ.inf fun b => if b ∈ S then (v b : EReal) else ⊤) = (t : EReal)) := by
    rcases S.eq_empty_or_nonempty with rfl | hne
    · exact ⟨0, fun h => absurd h (by simp), by simp, fun h => absurd h (by simp)⟩
    · obtain ⟨m, hm, hmin⟩ := exists_min_image S v hne
      refine ⟨v m, fun _ => ⟨m, hm, rfl⟩, hmin, fun _ => le_antisymm ?_ ?_⟩
      · exact (inf_le (mem_univ m)).trans (le_of_eq (if_pos hm))
      · refine Finset.le_inf fun b _ => ?_
        by_cases hb : b ∈ S
        · rw [if_pos hb]; exact EReal.coe_le_coe_iff.2 (hmin b hb)
        · rw [if_neg hb]; exact le_top
  unfold hard
  rw [Bisect.total_eq v hv hp hlt h0 S hS hdom htS ht 42, coe_sum, sum_ite_mem, univ_inter]
  refine sum_congr rfl fun a ha => ?_
  rw [hinf ⟨a, ha⟩, peak_eq, gridPoint_coe hp.ne', ← coe_max]

end Cert.Mbl

end
-- ==== Proof.RefNeg.lean ====
/- The reference's hard negatives. It ranks an image's losses by sorting them and sorting the positions again, and
   sums the losses of the ranks that count. -/
module

public import proofs.«01_k».proof.Proof.RefConf
public import proofs.«01_k».proof.Proof.Level
public import Idealize.ShloMosaic.Lib.IndicatorCount

@[expose] public section

noncomputable section

namespace Cert.ReferenceIdeal.Image

open Finset Idealize.ShloMosaic Cert.ReferenceIdeal.Read Cert.ReferenceIdeal.Gen Cert.Mbl

/-! Words, and the sorts' comparisons. -/

theorem toInt_small {n : ℕ} (h : n < 2 ^ 31) : (BitVec.ofNat 32 n).toInt = n := by
  rw [BitVec.toInt_eq_toNat_cond, BitVec.toNat_ofNat, Nat.mod_eq_of_lt (by omega), if_pos (by omega)]

theorem slt_one (m n : ℕ) (hm : m < 2 ^ 31) (hn : n < 2 ^ 31) :
    IntOp.cmpi .slt (BitVec.ofNat 32 m) (BitVec.ofNat 32 n) = 1#1 ↔ m < n := by
  show BitVec.ofBool ((BitVec.ofNat 32 m).slt (BitVec.ofNat 32 n)) = 1#1 ↔ m < n
  rw [ofBool_one, BitVec.slt, decide_eq_true_iff, toInt_small hm, toInt_small hn]
  exact Nat.cast_lt

theorem min_word {m n : ℕ} (hm : m < 2 ^ 31) (hn : n < 2 ^ 31) :
    IntOp.minsi (BitVec.ofNat 32 m) (BitVec.ofNat 32 n) = BitVec.ofNat 32 (min m n) := by
  unfold IntOp.minsi
  rw [BitVec.slt, toInt_small hm, toInt_small hn]
  by_cases h : m < n
  · rw [if_pos (by simpa using h), min_eq_left h.le]
  · rw [if_neg (by simpa using h), min_eq_right (not_lt.1 h)]

theorem max_zero_word {m : ℕ} (hm : m < 2 ^ 31) : IntOp.maxsi (BitVec.ofNat 32 m) 0#32 = BitVec.ofNat 32 m := by
  unfold IntOp.maxsi
  rw [BitVec.slt, toInt_small hm]
  by_cases h : 0 < m
  · rw [if_pos (by simpa using h)]
  · rw [if_neg (by simpa using h), Nat.eq_zero_of_not_pos h]

/-- The sort of the negated losses goes by their values: the zero and the undefined value it singles out change nothing
    over the extended reals. -/
theorem before_iff (x y : EReal) (m n : BitVec 32) :
    (comparator_f32_i32_d1 (F := Ideal) (x, m) (y, n) == 1#1) = true ↔ x < y := by
  have e : ∀ (x : EReal) (c : Ideal .f32), Scalar.select (FloatOps.cmpf (F := Ideal) (φ := .f32) .une x x) c
      (Scalar.select (FloatOps.cmpf (F := Ideal) (φ := .f32) .oeq x (FloatOps.ofBits .f32 0#32 : Ideal .f32))
        (FloatOps.ofBits .f32 0#32 : Ideal .f32) x) = x := fun x c => by
    have h1 : (FloatOps.cmpf (F := Ideal) (φ := .f32) .une x x) = 0#1 := by
      show BitVec.ofBool (decide (x ≠ x)) = 0#1
      simp
    rw [h1]
    show Scalar.select (BitVec.ofBool (decide (x = Ideal.ofBits .f32 0#32))) (Ideal.ofBits .f32 0#32) x = x
    by_cases h : x = Ideal.ofBits .f32 0#32
    · rw [decide_eq_true h]; exact h.symm
    · rw [decide_eq_false h]; rfl
  unfold comparator_f32_i32_d1
  simp only [e]
  show (BitVec.ofBool (decide (x < y)) == 1#1) = true ↔ x < y
  rw [beq_iff_eq, ofBool_one, decide_eq_true_iff]

/-- The second sort goes by the positions. -/
theorem rank_iff (m n : ℕ) (hm : m < 2 ^ 31) (hn : n < 2 ^ 31) (c d : BitVec 32) :
    (comparator_i32_i32_d1 (BitVec.ofNat 32 m, c) (BitVec.ofNat 32 n, d) == 1#1) = true ↔ m < n := by
  show (IntOp.cmpi .slt (BitVec.ofNat 32 m) (BitVec.ofNat 32 n) == 1#1) = true ↔ m < n
  rw [beq_iff_eq, slt_one m n hm hn]

/-- The count of the hard negatives, in words. -/
theorem quota_word (n : ℕ) (hn : n ≤ 24564) : IntOp.maxsi (IntOp.minsi (IntOp.muli 3#32 (BitVec.ofNat 32 n))
    (IntOp.subi 24564#32 (BitVec.ofNat 32 n))) 0#32 = BitVec.ofNat 32 (quota n) := by
  have h3 : IntOp.muli 3#32 (BitVec.ofNat 32 n) = BitVec.ofNat 32 (3 * n) := by
    show 3#32 * BitVec.ofNat 32 n = _
    rw [BitVec.ofNat_mul]
  have hs : IntOp.subi 24564#32 (BitVec.ofNat 32 n) = BitVec.ofNat 32 (24564 - n) := by
    show 24564#32 - BitVec.ofNat 32 n = _
    apply BitVec.eq_of_toNat_eq
    rw [BitVec.toNat_sub_of_le (by rw [BitVec.le_def]; simp; omega)]
    simp
    omega
  rw [h3, hs, min_word (by omega) (by omega), max_zero_word (lt_of_le_of_lt (min_le_right _ _) (by omega))]
  rfl

theorem fold_add_word {ι : Type} (f : ι → ℕ) (S : Finset ι) :
    fold IntOp.addi 0#32 (fun i => BitVec.ofNat 32 (f i)) S = BitVec.ofNat 32 (∑ i ∈ S, f i) := by
  classical
  induction S using Finset.induction_on with
  | empty => rfl
  | insert a S ha ih =>
    rw [fold_insert ha, ih, sum_insert ha]
    exact (BitVec.ofNat_add _ _).symm

/-! The single operations, over any arrays. -/

section

variable (i : Fin 32) (a : Fin 24564)

theorem count_at (b : IVec S32x24564 1) :
    Host.reduce IntOp.addi (extui 32 b natLt_1_32) (val_main_c_23 (F := Ideal)) reducesTo_S32x24564_S32_d1 h_S_ (ix1 i) =
      fold IntOp.addi 0#32 (fun a => (b (ix2 i a)).setWidth 32) univ := by
  pointwise [val_main_c_23]

theorem quota_at (n : IVec S32 32) :
    maxsi (minsi (muli (val_main_v170 (F := Ideal)) n) (subi (val_main_v172 (F := Ideal)) n)) (val_main_v175 (F := Ideal))
      (ix1 i) = IntOp.maxsi (IntOp.minsi (IntOp.muli 3#32 (n (ix1 i))) (IntOp.subi 24564#32 (n (ix1 i)))) 0#32 := by
  pointwise [val_main_v170, val_main_v172, val_main_v175, val_main_c_24, val_main_c_25, val_main_c_26]

theorem flip_at (v : FVec Ideal S32x24564 .f32) : Host.negf v (ix2 i a) = -(v (ix2 i a)) := by
  pointwise

theorem chosen_at (r : IVec S32x24564 32) (n : IVec S32 32) :
    cmpi .slt r (broadcastInDim S32x24564 ![0, 1] bcast_S32x1_S32x24564_0_1 (broadcastInDim S32x1 ![0] bcast_S32_S32x1_0 n))
      (ix2 i a) = IntOp.cmpi .slt (r (ix2 i a)) (n (ix1 i)) := by
  pointwise

/-- Sorting a row of negated losses and then the positions ranks the losses; the ranks below `k` are `k` many, and no
    other loss exceeds one of theirs. -/
theorem ranks_at (v : FVec Ideal S32x24564 .f32) (m : Fin 24564 → ℝ) (hv : ∀ a, v (ix2 i a) = -((m a : ℝ) : EReal))
    (k : ℕ) (hk : k ≤ 24564) : ∃ S : Finset (Fin 24564), S.card = k ∧ (∀ a ∈ S, ∀ b ∉ S, m b ≤ m a) ∧
      ∀ a, IntOp.cmpi .slt ((Host.sort2 S32x24564 1 comparator_i32_i32_d1 (Host.sort2 S32x24564 1
        (comparator_f32_i32_d1 (F := Ideal)) v (val_main_call9_v0 (F := Ideal))).2 (val_main_call10_v0 (F := Ideal))).2 (ix2 i a))
        (BitVec.ofNat 32 k) = 1#1 ↔ a ∈ S := by
  obtain ⟨R, hR, h1⟩ : ∃ R : Fin 24564 → Fin 24564 → Bool, (∀ a b, R a b = true ↔ m b < m a) ∧
      ∀ z, (Host.sort2 S32x24564 1 (comparator_f32_i32_d1 (F := Ideal)) v (val_main_call9_v0 (F := Ideal))).2 (ix2 i z) =
        BitVec.ofNat 32 (sortedFrom R z) := by
    refine ⟨_, fun a b => ?_, fun z => sort_positions (b := 32) (n := 24564) (comparator_f32_i32_d1 (F := Ideal)) v
      (val_main_call9_v0 (F := Ideal)) (fun _ _ => rfl) i z⟩
    rw [before_iff, hv, hv, EReal.neg_lt_neg_iff, EReal.coe_lt_coe_iff]
  generalize (Host.sort2 S32x24564 1 (comparator_f32_i32_d1 (F := Ideal)) v (val_main_call9_v0 (F := Ideal))).2 = w at h1
  have small : ∀ z : Fin 24564, (z : ℕ) < 2 ^ 31 := fun z => lt_trans z.isLt (by norm_num)
  obtain ⟨R', hR', h2⟩ : ∃ R' : Fin 24564 → Fin 24564 → Bool, (∀ a b, R' a b = true ↔ sortedFrom R a < sortedFrom R b) ∧
      ∀ z, (Host.sort2 S32x24564 1 comparator_i32_i32_d1 w (val_main_call10_v0 (F := Ideal))).2 (ix2 i z) =
        BitVec.ofNat 32 (sortedFrom R' z) := by
    refine ⟨_, fun a b => ?_, fun z => sort_positions (b := 32) (n := 24564) comparator_i32_i32_d1 w
      (val_main_call10_v0 (F := Ideal)) (fun _ _ => rfl) i z⟩
    rw [h1, h1, rank_iff _ _ (small _) (small _), Fin.lt_def]
  obtain ⟨hc, hd⟩ := ranks m R R' hR hR' k hk
  refine ⟨_, hc, hd, fun a => ?_⟩
  rw [h2, slt_one _ _ (small _) (lt_of_le_of_lt hk (by norm_num)), mem_filter, and_iff_right (mem_univ a)]

theorem least_at (b : IVec S32x24564 1) (v : FVec Ideal S32x24564 .f32) :
    Host.reduce FloatOps.minimumf (select b v (val_main_call11_v1 (F := Ideal))) (val_main_cst_28 (F := Ideal))
      reducesTo_S32x24564_S32_d1 h_S_ (ix1 i) =
      univ.inf fun a => Scalar.select (b (ix2 i a)) (v (ix2 i a)) (⊤ : EReal) := by
  pointwise [val_main_call11_v1, val_main_call11_v0, val_main_cst_27, val_main_cst_28]
  rw [show id (constant (F := Ideal) S_ .f32 2139095040#32) ix0 = ⊤ from word_top, word_top]
  rfl

theorem most_at (v : FVec Ideal S32x24564 .f32) :
    Host.reduce FloatOps.maximumf v (val_main_cst_29 (F := Ideal)) reducesTo_S32x24564_S32_d1 h_S_ (ix1 i) =
      univ.sup fun a => v (ix2 i a) := by
  pointwise [val_main_cst_29]
  rw [word_bot]
  rfl

theorem step_at (p : FVec Ideal S32 .f32) :
    mulf (addf (broadcastInDim S32x1 ![0] bcast_S32_S32x1_0 p) (val_main_v188 (F := Ideal))) (val_main_v190 (F := Ideal))
      (ix2 i 0) = gridStep (p (ix1 i)) := by
  pointwise [val_main_v188, val_main_v190, val_main_cst_30, val_main_cst_31]
  rw [word_grid]
  rfl

theorem level_at (t : FVec Ideal S32 .f32) (d : FVec Ideal S32x1 .f32) :
    mulf (Host.ceil (Host.divf (broadcastInDim S32x1 ![0] bcast_S32_S32x1_0 t) d)) d (ix2 i 0) =
      Ideal.liftRound Int.ceil (Ideal.div (t (ix1 i)) (d (ix2 i 0))) * d (ix2 i 0) := by
  pointwise

theorem raised_at (b : IVec S32x24564 1) (v : FVec Ideal S32x24564 .f32) (z : FVec Ideal S32x1 .f32) :
    select b (maximumf v (broadcastInDim S32x24564 ![0, 1] bcast_S32x1_S32x24564_0_1 z)) (val_main_call12_v1 (F := Ideal))
      (ix2 i a) = Scalar.select (b (ix2 i a)) (max (v (ix2 i a)) (z (ix2 i 0))) 0 := by
  pointwise [val_main_call12_v1, val_main_call12_v0, val_main_cst_32]
  rw [show id (constant (F := Ideal) S_ .f32 0#32) ix0 = 0 from word_zero]

theorem sum_hard_at (t : FVec Ideal S32x24564 .f32) :
    Host.reduceAdd t (val_main_cst_33 (F := Ideal)) reducesTo_S32x24564_S_d0_1 h_S_ ix0 =
      ∑ i : Fin 32, ∑ a : Fin 24564, t (ix2 i a) := by
  pointwise [val_main_cst_33]

theorem all_at (n : IVec S32 32) :
    maximumf (sitofp .f32 (Host.reduce IntOp.addi n (val_main_c_34 (F := Ideal)) reducesTo_S32_S_d0 h_S_))
      (val_main_cst_35 (F := Ideal)) ix0 =
      max (FloatOps.sitofp .f32 (fold IntOp.addi 0#32 (fun i => n (ix1 i)) univ) : Ideal .f32) 1 := by
  pointwise [val_main_c_34, val_main_cst_35]

end

/-! The reference's arrays. -/

section

variable (x1 : FVec Ideal S32x24564x21 .f32) (x2 : FVec Ideal S32x32x4 .f32) (x3 : IVec S32x32 32)
  (x4 : FVec Ideal S24564x4 .f32) (q : Fin 32 → Fin 32 → Fin 24564 → EReal)
  (hq : ∀ i o a, val_main_v78 (F := Ideal) x2 x4 (ix3 i o a) = q i o a)
  (l : Fin 32 → Fin 32 → Fin 20) (hl : IsLabels x3 l) (hs : FiniteScores x1)

include hq

/-- The positive anchors of an image. -/
theorem number_eq (i : Fin 32) : val_main_v169 (F := Ideal) x2 x4 (ix1 i) = BitVec.ofNat 32 (number (q i)) := by
  classical
  refine (count_at i (val_main_v98 (F := Ideal) x2 x4)).trans ((IndicatorCount.fold_addi_setWidth_eq_card _ _).trans ?_)
  refine congrArg (fun S : Finset (Fin 24564) => BitVec.ofNat 32 S.card) (filter_congr fun a _ => pos_eq x2 x4 q hq i a)

/-- How many negatives of an image count. -/
theorem quota_eq_word (i : Fin 32) :
    val_main_v176 (F := Ideal) x2 x4 (ix1 i) = BitVec.ofNat 32 (quota (number (q i))) := by
  refine (quota_at i (val_main_v169 (F := Ideal) x2 x4)).trans ?_
  rw [number_eq x2 x4 q hq, quota_word _ (number_le _)]

/-- All positive anchors, at least one. -/
theorem all_eq : val_main_v201 (F := Ideal) x2 x4 ix0 = max (∑ i : Fin 32, posCount (q i)) 1 := by
  refine (all_at (val_main_v169 (F := Ideal) x2 x4)).trans ?_
  simp only [number_eq x2 x4 q hq, posCount_eq]
  have hle : ∑ i : Fin 32, number (q i) ≤ 32 * 24564 :=
    (sum_le_sum fun i _ => number_le (q i)).trans (by rw [sum_const, card_univ, Fintype.card_fin, smul_eq_mul])
  rw [fold_add_word, position (by omega), Nat.cast_sum, coe_sum]

include hl hs

/-- The losses that count are as many as are wanted, and no other loss exceeds one of them. -/
theorem ranks_eq (i : Fin 32) : ∃ S : Finset (Fin 24564), S.card = quota (number (q i)) ∧
    (∀ a ∈ S, ∀ b ∉ S, minedR (q i) (l i) (argScores x1 i) b ≤ minedR (q i) (l i) (argScores x1 i) a) ∧
    ∀ a, val_main_v182 (F := Ideal) x1 x2 x3 x4 (ix2 i a) = 1#1 ↔ a ∈ S := by
  have hv : ∀ a, val_main_v177 (F := Ideal) x1 x2 x3 x4 (ix2 i a) =
      -((minedR (q i) (l i) (argScores x1 i) a : ℝ) : EReal) := fun a =>
    (flip_at i a (val_main_v167 (F := Ideal) x1 x2 x3 x4)).trans
      (congrArg (fun z : EReal => -z) (mined_eq x1 x2 x3 x4 q hq l hl hs i a))
  obtain ⟨S, hc, hd, hS⟩ := ranks_at i (val_main_v177 (F := Ideal) x1 x2 x3 x4) _ hv (quota (number (q i)))
    ((min_le_right _ _).trans (Nat.sub_le _ _))
  refine ⟨S, hc, hd, fun a => Iff.trans (Eq.to_iff (congrArg (· = 1#1) ?_)) (hS a)⟩
  refine (chosen_at i a (val_main_v179 (F := Ideal) x1 x2 x3 x4) (val_main_v176 (F := Ideal) x2 x4)).trans ?_
  rw [quota_eq_word x2 x4 q hq]
  rfl

/-- An image's hard negatives' losses, summed. -/
theorem image_eq (i : Fin 32) : ∑ a : Fin 24564, val_main_v197 (F := Ideal) x1 x2 x3 x4 (ix2 i a) =
    ((hard (minedR (q i) (l i) (argScores x1 i)) (quota (number (q i))) : ℝ) : EReal) := by
  obtain ⟨S, hc, hd, hS⟩ := ranks_eq x1 x2 x3 x4 q hq l hl hs i
  rw [← hard_level (minedR (q i) (l i) (argScores x1 i)) (minedR_nonneg (q i) (l i) (argScores x1 i) (hs i))
    (quota (number (q i))) (quota_le_above (q i) (l i) (argScores x1 i) (hs i)) S hc hd]
  have hsel : ∀ a (x y : EReal), Scalar.select (val_main_v182 (F := Ideal) x1 x2 x3 x4 (ix2 i a)) x y =
      if a ∈ S then x else y := fun a x y => by
    by_cases h : a ∈ S
    · rw [(hS a).2 h, if_pos h]; rfl
    · rw [(BitVec.eq_zero_or_eq_one _).resolve_right fun h' => h ((hS a).1 h'), if_neg h]; rfl
  have hm := mined_eq x1 x2 x3 x4 q hq l hl hs i
  have hleast : val_main_v184 (F := Ideal) x1 x2 x3 x4 (ix1 i) = univ.inf fun b =>
      if b ∈ S then ((minedR (q i) (l i) (argScores x1 i) b : ℝ) : EReal) else ⊤ := by
    refine (least_at i (val_main_v182 (F := Ideal) x1 x2 x3 x4) (val_main_v167 (F := Ideal) x1 x2 x3 x4)).trans ?_
    simp only [hsel, hm]
  have hmost : val_main_v186 (F := Ideal) x1 x2 x3 x4 (ix1 i) = univ.sup fun b =>
      ((minedR (q i) (l i) (argScores x1 i) b : ℝ) : EReal) := by
    refine (most_at i (val_main_v167 (F := Ideal) x1 x2 x3 x4)).trans ?_
    simp only [hm]
  have hstep : val_main_v191 (F := Ideal) x1 x2 x3 x4 (ix2 i 0) = gridStep (val_main_v186 (F := Ideal) x1 x2 x3 x4 (ix1 i)) :=
    step_at i (val_main_v186 (F := Ideal) x1 x2 x3 x4)
  have hlev : val_main_v194 (F := Ideal) x1 x2 x3 x4 (ix2 i 0) = gridPoint (val_main_v186 (F := Ideal) x1 x2 x3 x4 (ix1 i))
      (val_main_v184 (F := Ideal) x1 x2 x3 x4 (ix1 i)) := by
    refine (level_at i (val_main_v184 (F := Ideal) x1 x2 x3 x4) (val_main_v191 (F := Ideal) x1 x2 x3 x4)).trans ?_
    rw [hstep]
    rfl
  refine sum_congr rfl fun a _ => ?_
  refine (raised_at i a (val_main_v182 (F := Ideal) x1 x2 x3 x4) (val_main_v167 (F := Ideal) x1 x2 x3 x4)
    (val_main_v194 (F := Ideal) x1 x2 x3 x4)).trans ?_
  rw [hsel, hm, hlev, hleast, hmost]

/-- The hard negatives' losses. -/
theorem hard_eq : val_main_v198 (F := Ideal) x1 x2 x3 x4 ix0 =
    ∑ i : Fin 32, ((hard (minedR (q i) (l i) (argScores x1 i)) (quota (number (q i))) : ℝ) : EReal) :=
  Eq.trans (b := ∑ i : Fin 32, ∑ a : Fin 24564, val_main_v197 (F := Ideal) x1 x2 x3 x4 (ix2 i a))
    (sum_hard_at (val_main_v197 (F := Ideal) x1 x2 x3 x4))
    (sum_congr rfl fun i _ => image_eq x1 x2 x3 x4 q hq l hl hs i)

end

end Cert.ReferenceIdeal.Image

end
-- ==== Proof.RefResults.lean ====
/- The reference's three results. -/
module

public import proofs.«01_k».proof.Proof.RefTable
public import proofs.«01_k».proof.Proof.RefNeg

@[expose] public section

noncomputable section

namespace Cert.ReferenceIdeal.Image

open Finset Idealize.ShloMosaic Cert.ReferenceIdeal.Read Cert.ReferenceIdeal.Gen Cert.Mbl

/-! The last operations, over any scalars. -/

section

variable (s t : FVec Ideal S_ .f32)

theorem scalar_eq {x : EReal} (h : s ix0 = x) : s = fun _ => x :=
  funext fun i => (congrArg s (Subsingleton.elim i ix0)).trans h

theorem ratio_at : Host.divf s t ix0 = Ideal.div (s ix0) (t ix0) := by pointwise

theorem plus_at : addf s t ix0 = s ix0 + t ix0 := by pointwise

end

section

variable (x0 : FVec Ideal S32x24564x4 .f32) (x1 : FVec Ideal S32x24564x21 .f32) (x2 : FVec Ideal S32x32x4 .f32)
  (x3 : IVec S32x32 32) (x4 : FVec Ideal S24564x4 .f32) (l : Fin 32 → Fin 32 → Fin 20) (hl : IsLabels x3 l)
  (hs : FiniteScores x1) (hn : ∀ a (k : Fin 2), ∃ r : ℝ, x4 (ix2 a (lo k)) = r)

include hn

/-- The second result. -/
theorem loc_result : val_main_v202 (F := Ideal) x0 x2 x4 = fun _ => locResult x0 x2 x4 := by
  refine scalar_eq _ ((ratio_at (val_main_v159 (F := Ideal) x0 x2 x4) (val_main_v201 (F := Ideal) x2 x4)).trans ?_)
  rw [loc_eq x0 x2 x4 (argTable x2 x4) (iou_eq x2 x4 hn), all_eq x2 x4 (argTable x2 x4) (iou_eq x2 x4 hn)]
  rfl

include hl hs

/-- The third result. -/
theorem conf_result : val_main_v204 (F := Ideal) x1 x2 x3 x4 = fun _ => confResult x1 x2 l x4 := by
  refine scalar_eq _ ((ratio_at (val_main_v203 (F := Ideal) x1 x2 x3 x4) (val_main_v201 (F := Ideal) x2 x4)).trans ?_)
  rw [all_eq x2 x4 (argTable x2 x4) (iou_eq x2 x4 hn), show val_main_v203 (F := Ideal) x1 x2 x3 x4 ix0 = _ from
    plus_at (val_main_v166 (F := Ideal) x1 x2 x3 x4) (val_main_v198 (F := Ideal) x1 x2 x3 x4),
    conf_eq x1 x2 x3 x4 (argTable x2 x4) (iou_eq x2 x4 hn) l hl hs,
    hard_eq x1 x2 x3 x4 (argTable x2 x4) (iou_eq x2 x4 hn) l hl hs]
  rfl

/-- The first result. -/
theorem sum_result : val_main_v205 (F := Ideal) x0 x1 x2 x3 x4 = fun _ => locResult x0 x2 x4 + confResult x1 x2 l x4 := by
  refine scalar_eq _ ((plus_at (val_main_v202 (F := Ideal) x0 x2 x4) (val_main_v204 (F := Ideal) x1 x2 x3 x4)).trans ?_)
  rw [loc_result x0 x2 x4 hn, conf_result x1 x2 x3 x4 l hl hs hn]

end

end Cert.ReferenceIdeal.Image

end
-- ==== Proof.Slack.lean ====
/- How far the bisection's sum lies from the sum of the greatest losses: each counted loss is raised by less than a
   step of the grid. -/
module

public import proofs.«01_k».proof.Proof.Level

@[expose] public section

noncomputable section

namespace Cert.Mbl

open Finset Idealize.ShloMosaic

/-- Of `k` losses `S` none of which any other exceeds: their sum is at most what the bisection finds, and that exceeds it
    by at most a step each. -/
theorem hard_slack (v : Fin 24564 → ℝ) (hv : ∀ a, 0 ≤ v a) (k : ℕ) (h0 : k ≤ Bisect.above v 0) (S : Finset (Fin 24564))
    (hS : S.card = k) (hdom : ∀ a ∈ S, ∀ b ∉ S, v b ≤ v a) :
    ∑ a ∈ S, v a ≤ hard v k ∧ hard v k ≤ ∑ a ∈ S, v a + k * ((peak v + 1) / 2 ^ 42) := by
  have hp : 0 < peak v + 1 := by
    have := (hv ⟨0, by omega⟩).trans (le_peak v ⟨0, by omega⟩)
    linarith
  have hd : 0 < (peak v + 1) / 2 ^ 42 := div_pos hp (pow_pos two_pos 42)
  obtain ⟨t, htS, ht⟩ : ∃ t, (S.Nonempty → ∃ a ∈ S, v a = t) ∧ ∀ a ∈ S, t ≤ v a := by
    rcases S.eq_empty_or_nonempty with rfl | hne
    · exact ⟨0, fun h => absurd h (by simp), by simp⟩
    · obtain ⟨m, hm, hmin⟩ := exists_min_image S v hne
      exact ⟨v m, fun _ => ⟨m, hm, rfl⟩, hmin⟩
  unfold hard
  rw [Bisect.total_eq v hv hp (fun a => by linarith [le_peak v a]) h0 S hS hdom htS ht 42, ← hS, ← nsmul_eq_mul,
    ← sum_const, ← sum_add_distrib]
  refine ⟨sum_le_sum fun a _ => le_max_left _ _, sum_le_sum fun a ha => max_le (by linarith) ?_⟩
  have h1 := mul_le_mul_of_nonneg_right (Int.ceil_lt_add_one (t / ((peak v + 1) / 2 ^ 42))).le hd.le
  rw [add_mul, div_mul_cancel₀ _ hd.ne', one_mul] at h1
  exact h1.trans (by linarith [ht a ha])

/-- The positive anchors' classification loss is a real. -/
theorem confLoss_real (q : Fin 32 → Fin 24564 → EReal) (l : Fin 32 → Fin 20) (s : Fin 21 → Fin 24564 → EReal)
    (hs : ∀ c a, ∃ x : ℝ, s c a = (x : EReal)) : ∃ x : ℝ, confLoss q l s = (x : EReal) := by
  classical
  choose x hx _ using clsLoss_pos q l s hs
  refine ⟨∑ a, x a * if Pos q a then 1 else 0, ?_⟩
  rw [coe_sum]
  refine sum_congr rfl fun a _ => ?_
  rw [hx, EReal.coe_mul, coe_ite, mark]
  by_cases h : Pos q a
  · rw [if_pos h, if_pos h]; rfl
  · rw [if_neg h, if_neg h]; rfl

/-- Sums over the images that differ by at most three steps for each positive anchor, and are divided by the number of
    those, differ by at most three steps. -/
theorem ratio_slack (n : Fin 32 → ℕ) (c : Fin 32 → ℝ) (x y : Fin 32 → ℝ) (d : ℝ) (hd : 0 ≤ d) (hxy : ∀ i, x i ≤ y i)
    (hyx : ∀ i, y i ≤ x i + 3 * n i * d) :
    Ideal.div ((∑ i, (c i : EReal)) + ∑ i, (x i : EReal)) (max (∑ i, at' (n i)) 1) ≤
        Ideal.div ((∑ i, (c i : EReal)) + ∑ i, (y i : EReal)) (max (∑ i, at' (n i)) 1) ∧
      Ideal.div ((∑ i, (c i : EReal)) + ∑ i, (y i : EReal)) (max (∑ i, at' (n i)) 1) ≤
        Ideal.div ((∑ i, (c i : EReal)) + ∑ i, (x i : EReal)) (max (∑ i, at' (n i)) 1) + ((3 : ℝ) : EReal) * (d : EReal) := by
  have hN : max (∑ i, at' (n i)) 1 = ((max (∑ i, (n i : ℝ)) 1 : ℝ) : EReal) := by
    rw [coe_max, coe_sum]
    rfl
  have h1 : (1 : ℝ) ≤ max (∑ i, (n i : ℝ)) 1 := le_max_right _ _
  have h0 : ∑ i, (n i : ℝ) ≤ max (∑ i, (n i : ℝ)) 1 := le_max_left _ _
  rw [hN]
  generalize max (∑ i, (n i : ℝ)) 1 = N at h0 h1
  have hN0 : 0 < N := by linarith
  simp only [← coe_sum, ← EReal.coe_add, ← EReal.coe_mul, Ideal.div_coe hN0.ne', EReal.coe_le_coe_iff]
  have hx : ∑ i, x i ≤ ∑ i, y i := sum_le_sum fun i _ => hxy i
  have hy : ∑ i, y i ≤ ∑ i, x i + 3 * d * ∑ i, (n i : ℝ) := by
    rw [mul_sum, ← sum_add_distrib]
    exact sum_le_sum fun i _ => (hyx i).trans (le_of_eq (by ring))
  have hz : 3 * d * ∑ i, (n i : ℝ) ≤ 3 * d * N := mul_le_mul_of_nonneg_left h0 (by positivity)
  constructor
  · exact mul_le_mul_of_nonneg_right (by linarith) (by positivity)
  · rw [← sub_nonneg]
    have : 0 ≤ (∑ i, x i + 3 * d * N - ∑ i, y i) * (1 / N) := mul_nonneg (by linarith) (by positivity)
    have e : (∑ i, x i + 3 * d * N - ∑ i, y i) * (1 / N) = (∑ i, x i - ∑ i, y i) * (1 / N) + 3 * d := by
      field_simp
      ring
    nlinarith [this, e]

end Cert.Mbl

end
-- ==== Proof.Near.lean ====
/- What the postcondition reads: the reference's arrays, and of them the loss with no threshold rounded. -/
module

public import proofs.«01_k».proof.Post_near
public import proofs.«01_k».proof.Proof.RefResults
public import proofs.«01_k».proof.Proof.Slack

@[expose] public section

noncomputable section

namespace Cert.Near

open Finset Idealize.ShloMosaic Cert.ReferenceIdeal.Read Cert.Post_near Cert.Mbl

/-! The single operations, over any arrays. -/

section

variable [Facts]

theorem all_hold (r e b s t u : FVec Ideal S_ .f32) (h1 : r ix0 ≤ u ix0) (h2 : u ix0 ≤ r ix0 + e ix0) (h3 : t ix0 = b ix0)
    (h4 : s ix0 = t ix0 + u ix0) :
    andi (andi (andi (cmpf .ole r u) (cmpf .ole u (addf r e))) (cmpf .oeq t b)) (cmpf .oeq s (addf t u)) = fun _ => 1#1 := by
  funext j
  rw [Subsingleton.elim j ix0]
  show Ideal.cmp .ole (r ix0) (u ix0) &&& Ideal.cmp .ole (u ix0) (r ix0 + e ix0) &&& Ideal.cmp .oeq (t ix0) (b ix0) &&&
    Ideal.cmp .oeq (s ix0) (t ix0 + u ix0) = 1#1
  simp only [Ideal.cmp, h1, h2, h3, h4, decide_true]
  decide

theorem mean_at (a b n : FVec Ideal S_ .f32) : Host.divf (addf a b) n ix0 = Ideal.div (a ix0 + b ix0) (n ix0) := by
  pointwise

theorem plain_at (i : Fin 32) (a : Fin 24564) (v : FVec Ideal S32x24564 .f32) (b : IVec S32x24564 1) :
    mulf v (uitofp .f32 b) (ix2 i a) = v (ix2 i a) * (FloatOps.uitofp .f32 (b (ix2 i a)) : Ideal .f32) := by
  pointwise

theorem sum_at (t : FVec Ideal S32x24564 .f32) :
    Host.reduceAdd t (constant (F := Ideal) S_ .f32 0x00000000#32) Facts.reducesTo_S32x24564_S_d0_1 Facts.h_S_ ix0 =
      ∑ i : Fin 32, ∑ a : Fin 24564, t (ix2 i a) := by
  pointwise

theorem top_at (v : FVec Ideal S32x24564 .f32) :
    Host.reduce FloatOps.maximumf v (constant (F := Ideal) S_ .f32 0xFF800000#32) Facts.reducesTo_S32x24564_S_d0_1 Facts.h_S_ ix0 =
      univ.sup fun i => univ.sup fun a => v (ix2 i a) := by
  pointwise
  rw [word_bot]
  refine Eq.trans (b := (univ ×ˢ univ).sup fun p : Fin 32 × Fin 24564 => v (ix2 p.1 p.2)) ?_ (sup_product_left _ _ _)
  rw [univ_product_univ]
  rfl

theorem slack_at (p : FVec Ideal S_ .f32) :
    mulf (constant (F := Ideal) S_ .f32 0x40400000#32) (mulf (addf p (constant (F := Ideal) S_ .f32 0x3F800000#32))
      (constant (F := Ideal) S_ .f32 0x2A800000#32)) ix0 = ((3 : ℝ) : EReal) * gridStep (p ix0) := by
  pointwise
  rw [word_grid, word_three]
  rfl

end

section

variable [Facts] (x0 : FVec Ideal S32x24564x4 .f32) (x1 : FVec Ideal S32x24564x21 .f32) (x2 : FVec Ideal S32x32x4 .f32)
  (x3 : IVec S32x32 32) (x4 : FVec Ideal S24564x4 .f32) (s t u : FVec Ideal S_ .f32)

/-- The postcondition's arrays are the reference's. -/
theorem reads : fn (F := Ideal) x0 x1 x2 x3 x4 s t u = fn_part9 (F := Ideal) s t u (val_main_v159 (F := Ideal) x0 x2 x4)
    (val_main_v166 (F := Ideal) x1 x2 x3 x4) (val_main_v167 (F := Ideal) x1 x2 x3 x4) (val_main_v169 (F := Ideal) x2 x4)
    (mulf (val_main_v167 (F := Ideal) x1 x2 x3 x4) (uitofp .f32 (val_main_v182 (F := Ideal) x1 x2 x3 x4))) := rfl

end

section

variable (x0 : FVec Ideal S32x24564x4 .f32) (x1 : FVec Ideal S32x24564x21 .f32) (x2 : FVec Ideal S32x32x4 .f32)
  (x3 : IVec S32x32 32) (x4 : FVec Ideal S24564x4 .f32) (l : Fin 32 → Fin 32 → Fin 20) (hl : IsLabels x3 l)
  (hs : FiniteScores x1) (hn : ∀ a (k : Fin 2), ∃ r : ℝ, x4 (ix2 a (lo k)) = r)

/-- The greatest of all mined losses. -/
def top : ℝ := univ.sup' ⟨(0 : Fin 32), mem_univ _⟩ fun i => peak (argMined x1 x2 l x4 i)

theorem top_coe : ((top x1 x2 x4 l : ℝ) : EReal) = univ.sup fun i => univ.sup fun a => (argMined x1 x2 l x4 i a : EReal) := by
  simp only [peak_eq]
  obtain ⟨j, -, hj⟩ := exists_mem_eq_sup' ⟨(0 : Fin 32), mem_univ _⟩ fun i => peak (argMined x1 x2 l x4 i)
  refine le_antisymm ?_ (Finset.sup_le fun i _ => EReal.coe_le_coe_iff.2 (le_sup' (fun i => peak (argMined x1 x2 l x4 i)) (mem_univ i)))
  rw [top, hj]
  exact le_sup (f := fun i => (peak (argMined x1 x2 l x4 i) : EReal)) (mem_univ j)

variable [Facts]

include hl hs hn

/-- The mined losses of the first ranks, summed. -/
theorem plain_eq : ∃ S : Fin 32 → Finset (Fin 24564), (∀ i, (S i).card = argQuota x2 x4 i) ∧
    (∀ i, ∀ a ∈ S i, ∀ b ∉ S i, argMined x1 x2 l x4 i b ≤ argMined x1 x2 l x4 i a) ∧
    Host.reduceAdd (mulf (val_main_v167 (F := Ideal) x1 x2 x3 x4) (uitofp .f32 (val_main_v182 (F := Ideal) x1 x2 x3 x4)))
      (constant (F := Ideal) S_ .f32 0x00000000#32) Facts.reducesTo_S32x24564_S_d0_1 Facts.h_S_ ix0 =
      ∑ i, ((∑ a ∈ S i, argMined x1 x2 l x4 i a : ℝ) : EReal) := by
  have hq := Cert.ReferenceIdeal.Image.iou_eq x2 x4 hn
  choose S hc hd hS using Cert.ReferenceIdeal.Image.ranks_eq x1 x2 x3 x4 (argTable x2 x4) hq l hl hs
  refine ⟨S, hc, hd, ?_⟩
  refine Eq.trans (sum_at _) (sum_congr rfl fun i _ => ?_)
  rw [coe_sum, ← univ_inter (S i), ← sum_ite_mem]
  refine sum_congr rfl fun a _ => (plain_at i a _ _).trans ?_
  rw [Cert.ReferenceIdeal.Image.mined_eq x1 x2 x3 x4 (argTable x2 x4) hq l hl hs]
  by_cases h : a ∈ S i
  · rw [(hS i a).2 h, if_pos h]
    show _ * (((1#1 : BitVec 1).toNat : ℝ) : EReal) = _
    simp [argMined]
  · rw [(BitVec.eq_zero_or_eq_one _).resolve_right fun h' => h ((hS i a).1 h'), if_neg h]
    show _ * (((0#1 : BitVec 1).toNat : ℝ) : EReal) = _
    simp

/-- The postcondition holds of the three results. -/
theorem near : fn (F := Ideal) x0 x1 x2 x3 x4 (fun _ => locResult x0 x2 x4 + confResult x1 x2 l x4)
    (fun _ => locResult x0 x2 x4) (fun _ => confResult x1 x2 l x4) = fun _ => 1#1 := by
  have hq := Cert.ReferenceIdeal.Image.iou_eq x2 x4 hn
  obtain ⟨S, hc, hd, hP⟩ := plain_eq x1 x2 x3 x4 l hl hs hn
  choose c hC using fun i => confLoss_real (argTable x2 x4 i) (l i) (argScores x1 i) (hs i)
  have hv := fun i => minedR_nonneg (argTable x2 x4 i) (l i) (argScores x1 i) (hs i)
  have hH := fun i => hard_slack (argMined x1 x2 l x4 i) (hv i) (argQuota x2 x4 i)
    (quota_le_above (argTable x2 x4 i) (l i) (argScores x1 i) (hs i)) (S i) (hc i) (hd i)
  have htop : ∀ i, peak (argMined x1 x2 l x4 i) ≤ top x1 x2 x4 l := fun i =>
    le_sup' (fun i => peak (argMined x1 x2 l x4 i)) (mem_univ i)
  have h0 : ∀ i, 0 ≤ peak (argMined x1 x2 l x4 i) := fun i => (hv i ⟨0, by omega⟩).trans (le_peak _ ⟨0, by omega⟩)
  have hpow : (0 : ℝ) < 2 ^ 42 := pow_pos two_pos 42
  have hstep : 0 ≤ (top x1 x2 x4 l + 1) / 2 ^ 42 := div_nonneg (by linarith [h0 0, htop 0]) hpow.le
  have hR := ratio_slack (fun i => number (argTable x2 x4 i)) c (fun i => ∑ a ∈ S i, argMined x1 x2 l x4 i a)
    (fun i => hard (argMined x1 x2 l x4 i) (argQuota x2 x4 i)) ((top x1 x2 x4 l + 1) / 2 ^ 42) hstep (fun i => (hH i).1)
    (fun i => (hH i).2.trans (by
      have hk : (argQuota x2 x4 i : ℝ) ≤ 3 * number (argTable x2 x4 i) := by
        exact_mod_cast min_le_left (3 * number (argTable x2 x4 i)) _
      have hs' : (peak (argMined x1 x2 l x4 i) + 1) / 2 ^ 42 ≤ (top x1 x2 x4 l + 1) / 2 ^ 42 :=
        div_le_div_of_nonneg_right (by linarith [htop i]) hpow.le
      have hp' : 0 ≤ (peak (argMined x1 x2 l x4 i) + 1) / 2 ^ 42 := div_nonneg (by linarith [h0 i]) hpow.le
      exact add_le_add le_rfl (mul_le_mul hk hs' hp' ((Nat.cast_nonneg _).trans hk))))
  simp only [← posCount_eq, ← hC] at hR
  have hplain : Host.divf (addf (val_main_v166 (F := Ideal) x1 x2 x3 x4) (Host.reduceAdd
      (mulf (val_main_v167 (F := Ideal) x1 x2 x3 x4) (uitofp .f32 (val_main_v182 (F := Ideal) x1 x2 x3 x4)))
      (constant (F := Ideal) S_ .f32 0x00000000#32) Facts.reducesTo_S32x24564_S_d0_1 Facts.h_S_))
      (val_main_v201 (F := Ideal) x2 x4) ix0 =
      Ideal.div ((∑ i, confLoss (argTable x2 x4 i) (l i) (argScores x1 i)) +
        ∑ i, ((∑ a ∈ S i, argMined x1 x2 l x4 i a : ℝ) : EReal)) (max (∑ i, posCount (argTable x2 x4 i)) 1) := by
    refine (mean_at _ _ _).trans ?_
    rw [hP, Cert.ReferenceIdeal.Image.conf_eq x1 x2 x3 x4 (argTable x2 x4) hq l hl hs,
      Cert.ReferenceIdeal.Image.all_eq x2 x4 (argTable x2 x4) hq]
  have hslack : mulf (constant (F := Ideal) S_ .f32 0x40400000#32) (mulf (addf (Host.reduce FloatOps.maximumf
      (val_main_v167 (F := Ideal) x1 x2 x3 x4) (constant (F := Ideal) S_ .f32 0xFF800000#32) Facts.reducesTo_S32x24564_S_d0_1
      Facts.h_S_) (constant (F := Ideal) S_ .f32 0x3F800000#32)) (constant (F := Ideal) S_ .f32 0x2A800000#32)) ix0 =
      ((3 : ℝ) : EReal) * (((top x1 x2 x4 l + 1) / 2 ^ 42 : ℝ) : EReal) := by
    refine (slack_at _).trans ?_
    rw [top_at, ← gridStep_coe, top_coe]
    simp only [Cert.ReferenceIdeal.Image.mined_eq x1 x2 x3 x4 (argTable x2 x4) hq l hl hs]
    rfl
  rw [reads]
  refine all_hold _ _ (val_main_v202 (F := Ideal) x0 x2 x4) _ _ _ ?_ ?_ ?_ rfl
  · exact hplain.trans_le hR.1
  · exact hR.2.trans (add_le_add hplain.ge hslack.ge)
  · rw [Cert.ReferenceIdeal.Image.loc_result x0 x2 x4 hn]

end

end Cert.Near

end
-- ==== Proof.Ordinary.lean ====
/- What the precondition says: the scores and the centres of the anchors are reals and the labels are numbers below twenty. -/
module

public import proofs.«01_k».proof.Pre_ordinary
public import proofs.«01_k».proof.Proof.Args
public import Idealize.ShloMosaic.Lib.ReduceAll
public import Idealize.ShloMosaic.Lib.Affine

@[expose] public section

noncomputable section

namespace Cert.Ordinary

open Idealize.ShloMosaic Cert.Pre_ordinary Cert.Mbl

/-- A number smaller in size than infinity is real. -/
theorem real_of_small {x : EReal} (h : FloatOps.cmpf (F := Ideal) (φ := .f32) .olt (FloatOps.absf (F := Ideal) (φ := .f32) x)
    (FloatOps.ofBits (F := Ideal) .f32 0x7F800000#32) = 1#1) : ∃ r : ℝ, x = r := by
  have h : max x (-x) < Ideal.ofBits .f32 0x7F800000#32 :=
    of_decide_eq_true ((BitVec.ofBool_eq_iff_eq (b' := true)).1 h)
  rw [word_top, max_lt_iff] at h
  induction x with
  | bot => exact absurd h.2 (by simp)
  | top => exact absurd h.1 (by simp)
  | coe r => exact ⟨r, rfl⟩

/-- A word between zero and twenty is a number below twenty. -/
theorem label_of_range {x : BitVec 32} (h0 : IntOp.cmpi .sge x 0#32 = 1#1) (h1 : IntOp.cmpi .slt x 20#32 = 1#1) :
    ∃ n : Fin 20, x = BitVec.ofNat 32 n := by
  rw [IntOp.cmpi_sge] at h0
  rw [IntOp.cmpi_slt] at h1
  have e0 : (0#32 : BitVec 32).toInt = 0 := by decide
  have e1 : (20#32 : BitVec 32).toInt = 20 := by decide
  rw [e0] at h0
  rw [e1] at h1
  have hx : x.toNat < 20 := by
    have hb := x.isLt
    rw [BitVec.toInt_eq_toNat_cond] at h0 h1
    split at h0 <;> omega
  exact ⟨⟨x.toNat, hx⟩, (BitVec.ofNat_toNat 32 x ▸ by simp)⟩

theorem and_one {x y : BitVec 1} (h : x &&& y = 1#1) : x = 1#1 ∧ y = 1#1 := by
  revert x y; decide

variable [Facts] (x0 : FVec Ideal S32x24564x4 .f32) (x1 : FVec Ideal S32x24564x21 .f32) (x2 : FVec Ideal S32x32x4 .f32)
  (x3 : IVec S32x32 32) (x4 : FVec Ideal S24564x4 .f32)

theorem centre_at (a : Fin 24564) (k : Fin 2) :
    extractStridedSlice S24564x2 ![0, 0] x4 Facts.slices_S24564x4_S24564x2_0_0 (ix2 a k) = x4 (ix2 a (lo k)) := by
  fin_cases k <;> pointwise [lo]

/-- The precondition in plain words. -/
theorem ordinary (h : fn (F := Ideal) x0 x1 x2 x3 x4 = fun _ => 1#1) :
    FiniteScores x1 ∧ (∀ a (k : Fin 2), ∃ r : ℝ, x4 (ix2 a (lo k)) = r) ∧ ∃ l, IsLabels x3 l := by
  have e := congrFun h ix0
  dsimp only [fn] at e
  obtain ⟨e1, e2⟩ := and_one e
  obtain ⟨e3, e4⟩ := and_one e1
  have h1 := Host.reduce_andi_all _ _ _ _ _ e3
  have h3 := Host.reduce_andi_all _ _ _ _ _ e4
  have h4 := Host.reduce_andi_all _ _ _ _ _ e2
  refine ⟨fun i c a => real_of_small (h1 (ix3 i a c)), fun a k => centre_at x4 a k ▸ real_of_small (h3 (ix2 a k)), ?_⟩
  have h5 : ∀ i o, ∃ n : Fin 20, x3 (ix2 i o) = BitVec.ofNat 32 n := fun i o =>
    label_of_range (and_one (h4 (ix2 i o))).1 (and_one (h4 (ix2 i o))).2
  choose l hl using h5
  exact ⟨l, hl⟩

end Cert.Ordinary

end
-- ==== Proof.Equation.lean ====
/- The equation: of finite scores, of anchors with finite centres and of labels in range, the kernel's three results are the
   reference's, and lie within three steps of the grid of the loss with no threshold rounded. -/
module

public import proofs.«01_k».proof.Defs
public import proofs.«01_k».proof.Proof.KernelRun
public import proofs.«01_k».proof.Proof.RefResults
public import proofs.«01_k».proof.Proof.Near
public import proofs.«01_k».proof.Proof.Ordinary
public import proofs.«01_k».proof.Proof.Gen.Pre_ordinary
public import proofs.«01_k».proof.Proof.Gen.Post_near

@[expose] public section

noncomputable section

namespace Cert.Equation

open Idealize.ShloMosaic Idealize.ShloMosaic.StableHlo Idealize.SL.Sem Cert.Mbl

theorem algebraic : Cert.algebraic_KernelIdeal_ReferenceIdeal_pre_ordinary (hKernelIdeal := Cert.KernelIdeal.Gen.facts)
    (hReferenceIdeal := Cert.ReferenceIdeal.Gen.facts) (hPre_ordinary := Cert.Pre_ordinary.Gen.facts) := by
  intro m g m' g' hpre hargs
  letI := Cert.Pre_ordinary.Gen.facts
  have hord := fun c => Cert.Ordinary.ordinary _ _ _ _ _ (hpre c)
  choose l hl using fun c => (hord c).2.2
  refine ⟨_, _, _, Cert.KernelIdeal.Image.run m g l hl fun c => (hord c).1, ?_⟩
  refine (θ_run Cert.ReferenceIdeal.defs _ _).mono (fun r h c => ?_) (Cert.ReferenceIdeal.Value.run (F := Ideal) m' g')
  obtain ⟨a0, a1, a2, a3, a4⟩ := hargs c
  have h0 := (h c).1.trans (Cert.ReferenceIdeal.Read.val_main_v205_eq (launchContents m' c))
  have h1 := (h c).2.1.trans (Cert.ReferenceIdeal.Read.val_main_v202_eq (launchContents m' c))
  have h2 := (h c).2.2.1.trans (Cert.ReferenceIdeal.Read.val_main_v204_eq (launchContents m' c))
  have e0 := Cert.ReferenceIdeal.Image.sum_result (Cert.KernelIdeal.Image.arg0 m c) _ (Cert.KernelIdeal.Image.arg2 m c) _ _ (l c) (hl c) (hord c).1 (hord c).2.1
  have e1 := Cert.ReferenceIdeal.Image.loc_result (Cert.KernelIdeal.Image.arg0 m c) (Cert.KernelIdeal.Image.arg2 m c) _ (hord c).2.1
  have e2 := Cert.ReferenceIdeal.Image.conf_result _ (Cert.KernelIdeal.Image.arg2 m c) _ _ (l c) (hl c) (hord c).1 (hord c).2.1
  refine ⟨h0.trans (Eq.trans ?_ e0), h1.trans (Eq.trans ?_ e1), h2.trans (Eq.trans ?_ e2), (h c).2.2.2⟩
  · congr 1
  · congr 1
  · congr 1

/-- The kernel's results beside the loss with no threshold rounded. -/
theorem near : Cert.holds_KernelIdeal_near_pre_ordinary (hKernelIdeal := Cert.KernelIdeal.Gen.facts)
    (hPre_ordinary := Cert.Pre_ordinary.Gen.facts) (hPost_near := Cert.Post_near.Gen.facts) := by
  intro m g hpre
  letI := Cert.Pre_ordinary.Gen.facts
  letI := Cert.Post_near.Gen.facts
  have hord := fun c => Cert.Ordinary.ordinary _ _ _ _ _ (hpre c)
  choose l hl using fun c => (hord c).2.2
  refine (θ_run Cert.KernelIdeal.defs _ _).mono (fun r h c => ?_)
    (Cert.KernelIdeal.Image.run m g l hl fun c => (hord c).1)
  obtain ⟨h0, h1, h2, h3, h4, h5, h6, h7⟩ := h c
  refine ⟨h3, h4, h5, h6, h7, ?_⟩
  rw [h0, h1, h2]
  exact Cert.Near.near _ _ _ _ _ (l c) (hl c) (hord c).1 (hord c).2.1

end Cert.Equation

end
-- ==== Proof.lean ====
/- The certificate: the witnesses of what the programs state, then the claims in order. -/
module

public import proofs.«01_k».proof.Defs
public import proofs.«01_k».proof.Proof.Frames
public import proofs.«01_k».proof.Proof.Equation
public import proofs.«01_k».proof.Proof.Gen.ReferenceIdeal.Run
public import proofs.«01_k».proof.Proof.Gen.ReferenceIdeal.Read
public import proofs.«01_k».proof.Proof.Gen.Pre_ordinary
public import proofs.«01_k».proof.Proof.Gen.Post_near

@[expose] public section

noncomputable section

namespace Cert.Proof

theorem claim : Cert.Claim :=
  ⟨Cert.Kernel.Gen.facts, Cert.KernelIdeal.Gen.facts, Cert.ReferenceIdeal.Gen.facts, Cert.Pre_ordinary.Gen.facts,
    Cert.Post_near.Gen.facts, Cert.Frames.kernel, Cert.Frames.kernelIdeal, Cert.Frames.kernelIdeal_ordinary,
    Cert.Frames.reference, Cert.Frames.reference_ordinary, trivial, Cert.Equation.algebraic, Cert.Equation.near⟩

end Cert.Proof

end
